-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024 : Shape := ⟨1, ![1024]⟩
abbrev S8x1024 : Shape := ⟨2, ![8, 1024]⟩
abbrev S8x2048x1024 : Shape := ⟨3, ![8, 2048, 1024]⟩
abbrev S8x1024x1024 : Shape := ⟨3, ![8, 1024, 1024]⟩
abbrev S4096x1024 : Shape := ⟨2, ![4096, 1024]⟩
abbrev S1024x2048 : Shape := ⟨2, ![1024, 2048]⟩
abbrev S1x1024 : Shape := ⟨2, ![1, 1024]⟩
abbrev S2048x8 : Shape := ⟨2, ![2048, 8]⟩
abbrev S2048 : Shape := ⟨1, ![2048]⟩
abbrev S2048x1 : Shape := ⟨2, ![2048, 1]⟩
abbrev S512x1024 : Shape := ⟨2, ![512, 1024]⟩
abbrev S1x2048x1024 : Shape := ⟨3, ![1, 2048, 1024]⟩
abbrev S1x1024x1024 : Shape := ⟨3, ![1, 1024, 1024]⟩
abbrev S512x8 : Shape := ⟨2, ![512, 8]⟩
abbrev S512x2048 : Shape := ⟨2, ![512, 2048]⟩
abbrev S1024x1024 : Shape := ⟨2, ![1024, 1024]⟩
abbrev S1x8 : Shape := ⟨2, ![1, 8]⟩
abbrev S512 : Shape := ⟨1, ![512]⟩
abbrev S512x1 : Shape := ⟨2, ![512, 1]⟩
abbrev S256x1024 : Shape := ⟨2, ![256, 1024]⟩
abbrev S256x4096 : Shape := ⟨2, ![256, 4096]⟩
abbrev S256x2048 : Shape := ⟨2, ![256, 2048]⟩

abbrev nBuf : Space → Nat
  | .hbm => 12
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S8x1024, .f32⟩
  | .hbm, ⟨3, _⟩ => ⟨S8x2048x1024, .f32⟩
  | .hbm, ⟨4, _⟩ => ⟨S8x1024x1024, .f32⟩
  | .hbm, ⟨5, _⟩ => ⟨S4096x1024, .f32⟩
  | .hbm, ⟨6, _⟩ => ⟨S1024x2048, .f32⟩
  | .hbm, ⟨7, _⟩ => ⟨S1x1024, .f32⟩
  | .hbm, ⟨8, _⟩ => ⟨S2048x1024, .f32⟩
  | .hbm, ⟨9, _⟩ => ⟨S2048x8, .f32⟩
  | .hbm, ⟨10, _⟩ => ⟨S2048x1024, .f32⟩
  | .hbm, ⟨11, _⟩ => ⟨S2048x1024, .f32⟩
  | .local _ .vmem, ⟨0, _⟩ => ⟨S2048x1024, .f32⟩
  | .local _ .vmem, ⟨1, _⟩ => ⟨S1x1024, .f32⟩
  | .local _ .vmem, ⟨2, _⟩ => ⟨S8x1024, .f32⟩
  | .local _ .vmem, ⟨3, _⟩ => ⟨S2048x1024, .f32⟩
  | .local _ .vmem, ⟨4, _⟩ => ⟨S2048x8, .f32⟩
  | .local _ .vmem, ⟨5, _⟩ => ⟨S512x1024, .f32⟩
  | .local _ .vmem, ⟨6, _⟩ => ⟨S512x1024, .f32⟩
  | .local _ .vmem, ⟨7, _⟩ => ⟨S1x2048x1024, .f32⟩
  | .local _ .vmem, ⟨8, _⟩ => ⟨S1x2048x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S512x8, .f32⟩
  | .local _ .vmem, ⟨12, _⟩ => ⟨S512x8, .f32⟩
  | .local _ .vmem, ⟨13, _⟩ => ⟨S512x1024, .f32⟩
  | .local _ .vmem, ⟨14, _⟩ => ⟨S512x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S4096x1024, .f32⟩
  | .local _ .vmem, ⟨22, _⟩ => ⟨S1024x2048, .f32⟩
  | .local _ .vmem, ⟨23, _⟩ => ⟨S256x1024, .f32⟩
  | .local _ .vmem, ⟨24, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1_0 : Ref sig .tc := ⟨.hbm, 8, rfl⟩
abbrev main_call0_v1_1 : Ref sig .tc := ⟨.hbm, 9, rfl⟩
abbrev main_call0_v2 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![4, 8], ![false, false]⟩

def k1_cond1 (i : grid1.Coords) : BitVec 1 :=
  let arg1 : BitVec 32 := BitVec.ofNat 32 (i 1).val
  let c0_i32 : BitVec 32 := 0#32
  let v30 : BitVec 1 := Scalar.cmpi .eq arg1 c0_i32
  let v31 : BitVec 32 := Scalar.extui v30
  let c0_i32_14 : BitVec 32 := 0#32
  let v32 : BitVec 1 := Scalar.cmpi .ne v31 c0_i32_14
  v32

def k1_cond2 (i : grid1.Coords) : BitVec 1 :=
  let arg1 : BitVec 32 := BitVec.ofNat 32 (i 1).val
  let c0_i32_15 : BitVec 32 := 0#32
  let v33 : BitVec 1 := Scalar.cmpi .sgt arg1 c0_i32_15
  let v34 : BitVec 32 := Scalar.extui v33
  let c0_i32_16 : BitVec 32 := 0#32
  let v35 : BitVec 1 := Scalar.cmpi .ne v34 c0_i32_16
  v35

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4096x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S2048x1024 : Shape := ⟨2, ![2048, 1024]⟩
abbrev S1024 : Shape := ⟨1, ![1024]⟩
abbrev S8x1024 : Shape := ⟨2, ![8, 1024]⟩
abbrev S8x2048x1024 : Shape := ⟨3, ![8, 2048, 1024]⟩
abbrev S8x1024x1024 : Shape := ⟨3, ![8, 1024, 1024]⟩
abbrev S4096x1024 : Shape := ⟨2, ![4096, 1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024x8 : Shape := ⟨2, ![1024, 8]⟩
abbrev S2048x8 : Shape := ⟨2, ![2048, 8]⟩
abbrev S2048x2 : Shape := ⟨2, ![2048, 2]⟩
abbrev S2048x2x1 : Shape := ⟨3, ![2048, 2, 1]⟩
abbrev S1x1x8 : Shape := ⟨3, ![1, 1, 8]⟩
abbrev S2048x2x8 : Shape := ⟨3, ![2048, 2, 8]⟩
abbrev S2048x8x2048 : Shape := ⟨3, ![2048, 8, 2048]⟩
abbrev S2048x8x1024 : Shape := ⟨3, ![2048, 8, 1024]⟩
abbrev S8x1024x2048 : Shape := ⟨3, ![8, 1024, 2048]⟩
abbrev S2048x8x1 : Shape := ⟨3, ![2048, 8, 1]⟩
abbrev S1024x4096 : Shape := ⟨2, ![1024, 4096]⟩
abbrev S2048x4096 : Shape := ⟨2, ![2048, 4096]⟩
abbrev S2048x2048 : Shape := ⟨2, ![2048, 2048]⟩

abbrev nBuf : Space → Nat
  | .hbm => 98
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S8x1024, .f32⟩
  | .hbm, ⟨3, _⟩ => ⟨S8x2048x1024, .f32⟩
  | .hbm, ⟨4, _⟩ => ⟨S8x1024x1024, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S1024x8, .f32⟩
  | .hbm, ⟨24, _⟩ => ⟨S2048x8, .f32⟩
  | .hbm, ⟨25, _⟩ => ⟨S_, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S2048x1, .f32⟩
  | .hbm, ⟨31, _⟩ => ⟨S2048x8, .f32⟩
  | .hbm, ⟨32, _⟩ => ⟨S2048x8, .f32⟩
  | .hbm, ⟨33, _⟩ => ⟨S2048x8, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x8, .f32⟩
  | .hbm, ⟨38, _⟩ => ⟨S2048x8, .f32⟩
  | .hbm, ⟨39, _⟩ => ⟨S2048x2, .f32⟩
  | .hbm, ⟨40, _⟩ => ⟨S2048x2, .i32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x2, .f32⟩
  | .hbm, ⟨45, _⟩ => ⟨S2048x2, .f32⟩
  | .hbm, ⟨46, _⟩ => ⟨S_, .f32⟩
  | .hbm, ⟨47, _⟩ => ⟨S2048x2, .f32⟩
  | .hbm, ⟨48, _⟩ => ⟨S2048x2, .f32⟩
  | .hbm, ⟨49, _⟩ => ⟨S2048x2x1, .i32⟩
  | .hbm, ⟨50, _⟩ => ⟨S1x1x8, .i32⟩
  | .hbm, ⟨51, _⟩ => ⟨S2048x2x8, .i32⟩
  | .hbm, ⟨52, _⟩ => ⟨S2048x2x8, .i32⟩
  | .hbm, ⟨53, _⟩ => ⟨S2048x2x8, .i1⟩
  | .hbm, ⟨54, _⟩ => ⟨S2048x2x8, .f32⟩
  | .hbm, ⟨55, _⟩ => ⟨S2048x2x1, .f32⟩
  | .hbm, ⟨56, _⟩ => ⟨S2048x2x8, .f32⟩
  | .hbm, ⟨57, _⟩ => ⟨S2048x2x8, .f32⟩
  | .hbm, ⟨58, _⟩ => ⟨S_, .f32⟩
  | .hbm, ⟨59, _⟩ => ⟨S2048x8, .f32⟩
  | .hbm, ⟨60, _⟩ => ⟨S2048x8x2048, .f32⟩
  | .hbm, ⟨61, _⟩ => ⟨S2048x8x1024, .f32⟩
  | .hbm, ⟨62, _⟩ => ⟨S2048x8x1024, .f32⟩
  | .hbm, ⟨63, _⟩ => ⟨S2048x8x1024, .f32⟩
  | .hbm, ⟨64, _⟩ => ⟨S2048x8x1024, .f32⟩
  | .hbm, ⟨65, _⟩ => ⟨S_, .f32⟩
  | .hbm, ⟨66, _⟩ => ⟨S2048x8x1024, .f32⟩
  | .hbm, ⟨67, _⟩ => ⟨S2048x8x1024, .f32⟩
  | .hbm, ⟨68, _⟩ => ⟨S_, .f32⟩
  | .hbm, ⟨69, _⟩ => ⟨S2048x8x1024, .f32⟩
  | .hbm, ⟨70, _⟩ => ⟨S2048x8x1024, .f32⟩
  | .hbm, ⟨71, _⟩ => ⟨S2048x8x1024, .f32⟩
  | .hbm, ⟨72, _⟩ => ⟨S2048x8x1024, .f32⟩
  | .hbm, ⟨73, _⟩ => ⟨S8x1024x2048, .f32⟩
  | .hbm, ⟨74, _⟩ => ⟨S2048x8x1024, .f32⟩
  | .hbm, ⟨75, _⟩ => ⟨S2048x8x1, .f32⟩
  | .hbm, ⟨76, _⟩ => ⟨S2048x8x1024, .f32⟩
  | .hbm, ⟨77, _⟩ => ⟨S2048x8x1024, .f32⟩
  | .hbm, ⟨78, _⟩ => ⟨S_, .f32⟩
  | .hbm, ⟨79, _⟩ => ⟨S2048x1024, .f32⟩
  | .hbm, ⟨80, _⟩ => ⟨S1024x4096, .f32⟩
  | .hbm, ⟨81, _⟩ => ⟨S2048x4096, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S_, .f32⟩
  | .hbm, ⟨87, _⟩ => ⟨S2048x2048, .f32⟩
  | .hbm, ⟨88, _⟩ => ⟨S2048x2048, .f32⟩
  | .hbm, ⟨89, _⟩ => ⟨S_, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S2048x2048, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_values : Ref sig .tc := ⟨.hbm, 39, rfl⟩
abbrev main_indices : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩

abbrev nD : Nat := 1
abbrev τ : Topo := Topo.v7x

variable {F : FTy → Type} [FloatOps F]
-- ==== Proof.Exact.Router.lean ====
/-
  The router call: one grid point, whole arrays. What its body leaves, and that it meets its obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.Tactic

@[expose] public section

set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the device's buffers when the call is entered. -/
abbrev Entry0 (F : FTy → Type) := (c : Dev nD) → (b : Ref sig .tc) → Buf (Elt F) ((c : Thread nD τ).loc b)

variable (V : Entry0 F)

/-- The block of window `w` at grid point `t`, read off the array the call finds. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- The whole of a buffer of window 0. -/
abbrev all0_0 : Rect S2048x1024 := Rect.unit (s := S2048x1024) ![0, 0] S2048x1024.size inb_S2048x1024_S2048x1024_0_0
/-- The whole of a buffer of window 1. -/
abbrev all0_1 : Rect S1x1024 := Rect.unit (s := S1x1024) ![0, 0] S1x1024.size inb_S1x1024_S1x1024_0_0
/-- The whole of a buffer of window 2. -/
abbrev all0_2 : Rect S8x1024 := Rect.unit (s := S8x1024) ![0, 0] S8x1024.size inb_S8x1024_S8x1024_0_0
/-- The whole of a buffer of window 3. -/
abbrev all0_3 : Rect S2048x1024 := Rect.unit (s := S2048x1024) ![0, 0] S2048x1024.size inb_S2048x1024_S2048x1024_0_0
/-- The whole of a buffer of window 4. -/
abbrev all0_4 : Rect S2048x8 := Rect.unit (s := S2048x8) ![0, 0] S2048x8.size inb_S2048x8_S2048x8_0_0
/-- What the body leaves in window 3's buffer, from the blocks of the windows it reads. -/
def left0_3 (x0 : Vec F S2048x1024 .f32) (x1 : Vec F S1x1024 .f32) (x2 : Vec F S8x1024 .f32) : Vec F S2048x1024 .f32 :=
  View.canon [⟨all0_3, k0_pay2 (View.ld x0 all0_0) (View.ld x1 all0_1)⟩]

theorem tiles0_3 (p : Vec F S2048x1024 .f32) (y : S2048x1024.Idx) :
    ∃ q ∈ ([⟨all0_3, p⟩] : List (View.Piece (Elt F) S2048x1024 .f32)), y ∈ q.1.set :=
  View.cover_of_tiled [⟨all0_3, p⟩] S2048x1024.size (by rfl) y
/-- What the body leaves in window 4's buffer, from the blocks of the windows it reads. -/
def left0_4 (x0 : Vec F S2048x1024 .f32) (x1 : Vec F S1x1024 .f32) (x2 : Vec F S8x1024 .f32) : Vec F S2048x8 .f32 :=
  View.canon [⟨all0_4, k0_pay1 (iota .tc S2048x8 32 [1] iota_S2048x8_d1_w32) (k0_pay4 (View.ld x0 all0_0) (View.ld x1 all0_1) (View.ld x2 all0_2)) (k0_pay5 (View.ld x0 all0_0) (View.ld x1 all0_1) (View.ld x2 all0_2)) (k0_pay6 (View.ld x0 all0_0) (View.ld x1 all0_1) (View.ld x2 all0_2))⟩]

theorem tiles0_4 (p : Vec F S2048x8 .f32) (y : S2048x8.Idx) :
    ∃ q ∈ ([⟨all0_4, p⟩] : List (View.Piece (Elt F) S2048x8 .f32)), y ∈ q.1.set :=
  View.cover_of_tiled [⟨all0_4, p⟩] S2048x8.size (by rfl) y
set_option maxHeartbeats 1000000 in
/-- The body on whole buffers: it gives back what it reads as it was, and the buffers it writes at `left0`. -/
theorem body0_runs (c : Dev nD) (E : Set ℕ) (arg0 : Memref sig .tc .vmem S2048x1024 .f32) (harg0 : arg0.IsWhole) (arg1 : Memref sig .tc .vmem S1x1024 .f32) (harg1 : arg1.IsWhole) (arg2 : Memref sig .tc .vmem S8x1024 .f32) (harg2 : arg2.IsWhole) (arg3 : Memref sig .tc .vmem S2048x1024 .f32) (harg3 : arg3.IsWhole) (arg4 : Memref sig .tc .vmem S2048x8 .f32) (harg4 : arg4.IsWhole)
    (x0 : Vec F S2048x1024 .f32) (x1 : Vec F S1x1024 .f32) (x2 : Vec F S8x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (left0_3 x0 x1 x2) ∗ owns (c : Thread nD τ) arg4 fullShare (left0_4 x0 x1 x2)) -∗ K ⟨⟩))
      ⊢ wp frame (wpE (defs₀ (F := F)) Variants.none c none) E (cc0__router_body arg0 harg0 arg1 harg1 arg2 harg2 arg3 harg3 arg4 harg4) K := by
  simp only [cc0__router_body_eq_skeleton]; unfold cc0__router_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (tiles0_3 _)
  iexists _; isplitr
  swap; · iexact H4
  ipureintro
  exact View.read_writes_eq_canon _ _ _ (tiles0_4 _)

/-- The call's data: the arrays as found, and after the body at a point each buffer read at its block, each buffer written
    at `left0` of the blocks. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => left0_3 (blk0 V c 0 t) (blk0 V c 1 t) (blk0 V c 2 t)
    | ⟨4, _⟩ => left0_4 (blk0 V c 0 t) (blk0 V c 1 t) (blk0 V c 2 t)
  Φ _ := Pipeline.ΦA spec0 c
  q _ := fullShare
  owed _ := 0

theorem A0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = left0_3 (blk0 V c 0 t) (blk0 V c 1 t) (blk0 V c 2 t) := by dsimp only [dat0]
theorem after0_4 (c : Dev nD) (t : Fin cfg0.N) : (dat0 V c).after 4 t = left0_4 (blk0 V c 0 t) (blk0 V c 1 t) (blk0 V c 2 t) := by dsimp only [dat0]

theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A0]; try rfl) t d).trans
    (by unfold Dat.fetched Dat.blockOf blk0; rw [A0]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A0]; try rfl) t d).trans
    (by unfold Dat.fetched Dat.blockOf blk0; rw [A0]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A0]; try rfl) t d).trans
    (by unfold Dat.fetched Dat.blockOf blk0; rw [A0]; try rfl)

/-- What the body is called with at point `t`. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body returns at point `t`. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body0_runs c Set.univ _ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body meets its obligation at every grid point. -/
theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (point0 V c t) rfl .rfl fun _ => .rfl

end Cert.KernelIdeal.Run

end
-- ==== Proof.Exact.Moe.lean ====
/-
  The expert call: four row blocks by eight experts, the expert axis innermost. The output block is stored at the first
  expert and added to at the others. What its body leaves, and that it meets its obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.WordCmp
public import Idealize.ShloMosaic.Lib.Ring
public import Idealize.ShloMosaic.Lib.Tactic

@[expose] public section

set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the device's buffers when the call is entered. -/
abbrev Entry1 (F : FTy → Type) := (c : Dev nD) → (b : Ref sig .tc) → Buf (Elt F) ((c : Thread nD τ).loc b)

variable (V : Entry1 F)

/-- The block of window `w` at grid point `t`, read off the array the call finds. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The whole of a buffer of window 0. -/
abbrev all1_0 : Rect S512x1024 := Rect.unit (s := S512x1024) ![0, 0] S512x1024.size inb_S512x1024_S512x1024_0_0
/-- The whole of a buffer of window 1. -/
abbrev all1_1 : Rect S1x2048x1024 := Rect.unit (s := S1x2048x1024) ![0, 0, 0] S1x2048x1024.size inb_S1x2048x1024_S1x2048x1024_0_0_0
/-- The whole of a buffer of window 2. -/
abbrev all1_2 : Rect S1x1024x1024 := Rect.unit (s := S1x1024x1024) ![0, 0, 0] S1x1024x1024.size inb_S1x1024x1024_S1x1024x1024_0_0_0
/-- The whole of a buffer of window 3. -/
abbrev all1_3 : Rect S512x8 := Rect.unit (s := S512x8) ![0, 0] S512x8.size inb_S512x8_S512x8_0_0
/-- The whole of a buffer of window 4. -/
abbrev all1_4 : Rect S512x1024 := Rect.unit (s := S512x1024) ![0, 0] S512x1024.size inb_S512x1024_S512x1024_0_0

/-- What the body leaves in the output buffer at the first expert. -/
def first1 (i : grid1.Coords) (x0 : Vec F S512x1024 .f32) (x1 : Vec F S1x2048x1024 .f32) (x2 : Vec F S1x1024x1024 .f32) (x3 : Vec F S512x8 .f32) : Vec F S512x1024 .f32 :=
  View.canon [⟨all1_4, k1_pay1 i (View.ld x0 all1_0) (View.ld x1 all1_1) (View.ld x2 all1_2) (View.ld x3 all1_3)⟩]

/-- What the body leaves in the output buffer at a later expert, over what it held. -/
def next1 (i : grid1.Coords) (x0 : Vec F S512x1024 .f32) (x1 : Vec F S1x2048x1024 .f32) (x2 : Vec F S1x1024x1024 .f32) (x3 : Vec F S512x8 .f32) (z : Vec F S512x1024 .f32) : Vec F S512x1024 .f32 :=
  View.canon [⟨all1_4, k1_pay2 i (View.ld x0 all1_0) (View.ld x1 all1_1) (View.ld x2 all1_2) (View.ld x3 all1_3) (View.ld z all1_4)⟩]

theorem tiles1_4 (p : Vec F S512x1024 .f32) (y : S512x1024.Idx) :
    ∃ q ∈ ([⟨all1_4, p⟩] : List (View.Piece (Elt F) S512x1024 .f32)), y ∈ q.1.set :=
  View.cover_of_tiled [⟨all1_4, p⟩] S512x1024.size (by rfl) y

/-- The store's condition: the first expert. -/
theorem storesAt : ∀ t : Fin cfg1.N, k1_cond1 (grid1.coords t) = 1#1 ↔ t.val % 8 = 0 :=
  (fun t => by
    have e0 : (grid1.coords t 0).val = t.val / 8 % 4 := Pipeline.Grid.coords_val t 0 (by decide) rfl
    have e1 : (grid1.coords t 1).val = t.val / 1 % 8 := Pipeline.Grid.coords_val t 1 (by decide) rfl
    simp only [k1_cond1, e0, e1]
    word_cmp
   : ∀ t : Fin grid1.N, k1_cond1 (grid1.coords t) = 1#1 ↔ t.val % 8 = 0)

/-- The accumulation's condition: a later expert. -/
theorem addsAt : ∀ t : Fin cfg1.N, k1_cond2 (grid1.coords t) = 1#1 ↔ 1 ≤ t.val % 8 :=
  (by decide +kernel : ∀ t : Fin grid1.N, k1_cond2 (grid1.coords t) = 1#1 ↔ 1 ≤ t.val % 8)

/-- The output window is stored into at every point. -/
theorem live1_4 : ∀ i : grid1.Coords, cfg1.idle 4 i = false := by decide +kernel

set_option maxHeartbeats 1000000 in
/-- The body at the first expert, on whole buffers. -/
theorem body1_first (c : Dev nD) (E : Set ℕ) (i : grid1.Coords) (arg2 : Memref sig .tc .vmem S512x1024 .f32) (harg2 : arg2.IsWhole) (arg3 : Memref sig .tc .vmem S1x2048x1024 .f32) (harg3 : arg3.IsWhole) (arg4 : Memref sig .tc .vmem S1x1024x1024 .f32) (harg4 : arg4.IsWhole) (arg5 : Memref sig .tc .vmem S512x8 .f32) (harg5 : arg5.IsWhole) (arg6 : Memref sig .tc .vmem S512x1024 .f32) (harg6 : arg6.IsWhole)
    (hc0 : k1_cond1 i = 1#1) (hc1 : ¬ k1_cond2 i = 1#1)
    (x0 : Vec F S512x1024 .f32) (x1 : Vec F S1x2048x1024 .f32) (x2 : Vec F S1x1024x1024 .f32) (x3 : Vec F S512x8 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (first1 i x0 x1 x2 x3)) -∗ K ⟨⟩))
      ⊢ wp frame (wpE (defs₀ (F := F)) Variants.none c none) E (cc1__moe_body i arg2 harg2 arg3 harg3 arg4 harg4 arg5 harg5 arg6 harg6) K := by
  simp only [cc1__moe_body_eq_skeleton]; unfold cc1__moe_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tiles1_4 _)

set_option maxHeartbeats 1000000 in
/-- The body at a later expert, on whole buffers: the output buffer read before it is covered. -/
theorem body1_next (c : Dev nD) (E : Set ℕ) (i : grid1.Coords) (arg2 : Memref sig .tc .vmem S512x1024 .f32) (harg2 : arg2.IsWhole) (arg3 : Memref sig .tc .vmem S1x2048x1024 .f32) (harg3 : arg3.IsWhole) (arg4 : Memref sig .tc .vmem S1x1024x1024 .f32) (harg4 : arg4.IsWhole) (arg5 : Memref sig .tc .vmem S512x8 .f32) (harg5 : arg5.IsWhole) (arg6 : Memref sig .tc .vmem S512x1024 .f32) (harg6 : arg6.IsWhole)
    (hc0 : ¬ k1_cond1 i = 1#1) (hc1 : k1_cond2 i = 1#1)
    (x0 : Vec F S512x1024 .f32) (x1 : Vec F S1x2048x1024 .f32) (x2 : Vec F S1x1024x1024 .f32) (x3 : Vec F S512x8 .f32) (z : Vec F S512x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (next1 i x0 x1 x2 x3 z)) -∗ K ⟨⟩))
      ⊢ wp frame (wpE (defs₀ (F := F)) Variants.none c none) E (cc1__moe_body i arg2 harg2 arg3 harg3 arg4 harg4 arg5 harg5 arg6 harg6) K := by
  simp only [cc1__moe_body_eq_skeleton]; unfold cc1__moe_body_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (tiles1_4 _)

/-- What the output buffer holds after the body at position `n`: started at each block's first expert, added to at the others. -/
def acc1 (c : Dev nD) : (n : ℕ) → n < cfg1.N → Vec F S512x1024 .f32
  | 0, hn => first1 (grid1.coords ⟨0, hn⟩) (blk1 V c 0 ⟨0, hn⟩) (blk1 V c 1 ⟨0, hn⟩) (blk1 V c 2 ⟨0, hn⟩) (blk1 V c 3 ⟨0, hn⟩)
  | n + 1, hn =>
    if (n + 1) % 8 = 0 then first1 (grid1.coords ⟨n + 1, hn⟩) (blk1 V c 0 ⟨n + 1, hn⟩) (blk1 V c 1 ⟨n + 1, hn⟩) (blk1 V c 2 ⟨n + 1, hn⟩) (blk1 V c 3 ⟨n + 1, hn⟩)
    else next1 (grid1.coords ⟨n + 1, hn⟩) (blk1 V c 0 ⟨n + 1, hn⟩) (blk1 V c 1 ⟨n + 1, hn⟩) (blk1 V c 2 ⟨n + 1, hn⟩) (blk1 V c 3 ⟨n + 1, hn⟩) (acc1 c n (Nat.lt_of_succ_lt hn))

theorem acc1_first (c : Dev nD) (t : Fin cfg1.N) (h : t.val % 8 = 0) :
    acc1 V c t.val t.isLt = first1 (grid1.coords t) (blk1 V c 0 t) (blk1 V c 1 t) (blk1 V c 2 t) (blk1 V c 3 t) := by
  obtain ⟨n, hn⟩ := t
  cases n with
  | zero => rfl
  | succ n => exact if_pos h

theorem acc1_next (c : Dev nD) (t : Fin cfg1.N) (h : ¬ t.val % 8 = 0) :
    acc1 V c t.val t.isLt = next1 (grid1.coords t) (blk1 V c 0 t) (blk1 V c 1 t) (blk1 V c 2 t) (blk1 V c 3 t)
      (acc1 V c (t.val - 1) (Nat.lt_of_le_of_lt (Nat.sub_le _ _) t.isLt)) := by
  obtain ⟨n, hn⟩ := t
  cases n with
  | zero => exact absurd (Nat.zero_mod _) h
  | succ n => exact if_neg h

/-- The call's data: the arrays as found, and after the body at a point each buffer read at its block, the output's at `acc1`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => acc1 V c t.val t.isLt
  Φ _ := Pipeline.ΦA spec1 c
  q _ := fullShare
  owed _ := 0

theorem A1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = acc1 V c t.val t.isLt := by dsimp only [dat1]

theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A1]; try rfl) t d).trans
    (by unfold Dat.fetched Dat.blockOf blk1; rw [A1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A1]; try rfl) t d).trans
    (by unfold Dat.fetched Dat.blockOf blk1; rw [A1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A1]; try rfl) t d).trans
    (by unfold Dat.fetched Dat.blockOf blk1; rw [A1]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [A1]; try rfl) t d).trans
    (by unfold Dat.fetched Dat.blockOf blk1; rw [A1]; try rfl)

/-- At a later expert the output buffer holds what the point before left: it is written back only after the last expert. -/
theorem before1_4 (c : Dev nD) (t : Fin cfg1.N) (h : ¬ t.val % 8 = 0) (d) :
    (dat1 V c).before 4 t d = acc1 V c (t.val - 1) (Nat.lt_of_le_of_lt (Nat.sub_le _ _) t.isLt) := by
  rw [(dat1 V c).before_out_kept 4 rfl t (fun h0 => h (by rw [h0])) ?_ live1_4 (fun _ _ => rfl) d, after1_4]
  rw [Bool.eq_false_iff]
  intro hf
  have h7 := (flush1_4 _).mp hf
  dsimp only at h7
  omega

/-- What the body is called with at point `t`. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body returns at point `t`. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 800000 in
theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [show cfg1.idle 0 (cfg1.grid.coords t) = false from rfl], after1_0]
  rw [show (dat1 V c).leavesExact 1 t = owns (c : Thread nD τ) (st1_1 t) fullShare ((dat1 V c).after 1 t) from by
    unfold Dat.leavesExact; rw [show cfg1.idle 1 (cfg1.grid.coords t) = false from rfl], after1_1]
  rw [show (dat1 V c).leavesExact 2 t = owns (c : Thread nD τ) (st1_2 t) fullShare ((dat1 V c).after 2 t) from by
    unfold Dat.leavesExact; rw [show cfg1.idle 2 (cfg1.grid.coords t) = false from rfl], after1_2]
  rw [show (dat1 V c).leavesExact 3 t = owns (c : Thread nD τ) (st1_3 t) fullShare ((dat1 V c).after 3 t) from by
    unfold Dat.leavesExact; rw [show cfg1.idle 3 (cfg1.grid.coords t) = false from rfl], after1_3]
  rw [show (dat1 V c).leavesExact 4 t = owns (c : Thread nD τ) (st1_4 t) fullShare ((dat1 V c).after 4 t) from by
    unfold Dat.leavesExact; rw [live1_4], after1_4]
  by_cases h0 : t.val % 8 = 0
  · have hc0 := (storesAt t).mpr h0
    have hc1 : ¬ k1_cond2 (grid1.coords t) = 1#1 := fun h => absurd ((addsAt t).mp h) (by omega)
    rw [acc1_first V c t h0]
    iintro ⟨HΦ, Ho, ⟨%d0, H0⟩, ⟨%d1, H1⟩, ⟨%d2, H2⟩, ⟨%d3, H3⟩, ⟨%d4, H4⟩⟩
    iapply (body1_first c Set.univ (grid1.coords t) _ _ _ _ _ _ _ _ _ _ hc0 hc1 (blk1 V c 0 t) (blk1 V c 1 t) (blk1 V c 2 t) (blk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have hc0 := fun h => h0 ((storesAt t).mp h)
    have hc1 := (addsAt t).mpr (by omega)
    rw [acc1_next V c t h0]
    simp only [before1_4 V c t h0]
    iintro ⟨HΦ, Ho, ⟨%d0, H0⟩, ⟨%d1, H1⟩, ⟨%d2, H2⟩, ⟨%d3, H3⟩, ⟨%d4, H4⟩⟩
    iapply (body1_next c Set.univ (grid1.coords t) _ _ _ _ _ _ _ _ _ _ hc0 hc1 (blk1 V c 0 t) (blk1 V c 1 t) (blk1 V c 2 t) (blk1 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body meets its obligation at every grid point. -/
theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (point1 V c t) rfl .rfl fun _ => .rfl

end Cert.KernelIdeal.Run

end
-- ==== Proof.Exact.Shared.lean ====
/-
  The shared-expert call: eight grid points of 256 rows. What its body leaves, and that it meets its obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysS
public import Idealize.ShloMosaic.Lib.Ring
public import Idealize.ShloMosaic.Lib.Tactic

@[expose] public section

set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the device's buffers when the call is entered. -/
abbrev Entry2 (F : FTy → Type) := (c : Dev nD) → (b : Ref sig .tc) → Buf (Elt F) ((c : Thread nD τ).loc b)

variable (V : Entry2 F)

/-- The block of window `w` at grid point `t`, read off the array the call finds. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
/-- The whole of a buffer of window 0. -/
abbrev all2_0 : Rect S256x1024 := Rect.unit (s := S256x1024) ![0, 0] S256x1024.size inb_S256x1024_S256x1024_0_0
/-- The whole of a buffer of window 1. -/
abbrev all2_1 : Rect S256x1024 := Rect.unit (s := S256x1024) ![0, 0] S256x1024.size inb_S256x1024_S256x1024_0_0
/-- The whole of a buffer of window 2. -/
abbrev all2_2 : Rect S256x1024 := Rect.unit (s := S256x1024) ![0, 0] S256x1024.size inb_S256x1024_S256x1024_0_0
/-- The whole of a buffer of window 3. -/
abbrev all2_3 : Rect S4096x1024 := Rect.unit (s := S4096x1024) ![0, 0] S4096x1024.size inb_S4096x1024_S4096x1024_0_0
/-- The whole of a buffer of window 4. -/
abbrev all2_4 : Rect S1024x2048 := Rect.unit (s := S1024x2048) ![0, 0] S1024x2048.size inb_S1024x2048_S1024x2048_0_0
/-- The whole of a buffer of window 5. -/
abbrev all2_5 : Rect S256x1024 := Rect.unit (s := S256x1024) ![0, 0] S256x1024.size inb_S256x1024_S256x1024_0_0
/-- What the body leaves in window 5's buffer, from the blocks of the windows it reads. -/
def left2_5 (x0 : Vec F S256x1024 .f32) (x1 : Vec F S256x1024 .f32) (x2 : Vec F S256x1024 .f32) (x3 : Vec F S4096x1024 .f32) (x4 : Vec F S1024x2048 .f32) : Vec F S256x1024 .f32 :=
  View.canon [⟨all2_5, k2_pay1 (View.ld x1 all2_1) (View.ld x3 all2_3) (View.ld x4 all2_4) (View.ld x0 all2_0) (View.ld x2 all2_2)⟩]

theorem tiles2_5 (p : Vec F S256x1024 .f32) (y : S256x1024.Idx) :
    ∃ q ∈ ([⟨all2_5, p⟩] : List (View.Piece (Elt F) S256x1024 .f32)), y ∈ q.1.set :=
  View.cover_of_tiled [⟨all2_5, p⟩] S256x1024.size (by rfl) y
set_option maxHeartbeats 1000000 in
/-- The body on whole buffers: it gives back what it reads as it was, and the buffers it writes at `left2`. -/
theorem body2_runs (c : Dev nD) (E : Set ℕ) (i : grid2.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S4096x1024 .f32) (harg4 : arg4.IsWhole) (arg5 : Memref sig .tc .vmem S1024x2048 .f32) (harg5 : arg5.IsWhole) (arg6 : Memref sig .tc .vmem S256x1024 .f32) (harg6 : arg6.IsWhole)
    (x0 : Vec F S256x1024 .f32) (x1 : Vec F S256x1024 .f32) (x2 : Vec F S256x1024 .f32) (x3 : Vec F S4096x1024 .f32) (x4 : Vec F S1024x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (left2_5 x0 x1 x2 x3 x4)) -∗ K ⟨⟩))
      ⊢ wp frame (wpE (defs₀ (F := F)) Variants.none c none) E (cc2__shared_body i arg1 harg1 arg2 harg2 arg3 harg3 arg4 harg4 arg5 harg5 arg6 harg6) K := by
  simp only [cc2__shared_body_eq_skeleton]; unfold cc2__shared_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tiles2_5 _)

/-- The call's data: the arrays as found, and after the body at a point each buffer read at its block, each buffer written
    at `left2` of the blocks. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => left2_5 (blk2 V c 0 t) (blk2 V c 1 t) (blk2 V c 2 t) (blk2 V c 3 t) (blk2 V c 4 t)
  Φ _ := Pipeline.ΦA spec2 c
  q _ := fullShare
  owed _ := 0

theorem A2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = left2_5 (blk2 V c 0 t) (blk2 V c 1 t) (blk2 V c 2 t) (blk2 V c 3 t) (blk2 V c 4 t) := by dsimp only [dat2]

theorem before2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [A2]; try rfl) t d).trans
    (by unfold Dat.fetched Dat.blockOf blk2; rw [A2]; try rfl)
theorem before2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [A2]; try rfl) t d).trans
    (by unfold Dat.fetched Dat.blockOf blk2; rw [A2]; try rfl)
theorem before2_2 (c : Dev nD) (t : Fin cfg2.N) (d) : (dat2 V c).before 2 t d = blk2 V c 2 t :=
  ((dat2 V c).before_in_eq_fetched 2 rfl (fun _ => rfl) (fun _ _ _ => rfl)
    (fun t => by rw [after2_2]; unfold Dat.blockOf blk2; rw [A2]; try rfl) t d).trans
    (by unfold Dat.fetched Dat.blockOf blk2; rw [A2]; try rfl)
theorem before2_3 (c : Dev nD) (t : Fin cfg2.N) (d) : (dat2 V c).before 3 t d = blk2 V c 3 t :=
  ((dat2 V c).before_in_eq_fetched 3 rfl (fun _ => rfl) (fun _ _ _ => rfl)
    (fun t => by rw [after2_3]; unfold Dat.blockOf blk2; rw [A2]; try rfl) t d).trans
    (by unfold Dat.fetched Dat.blockOf blk2; rw [A2]; try rfl)
theorem before2_4 (c : Dev nD) (t : Fin cfg2.N) (d) : (dat2 V c).before 4 t d = blk2 V c 4 t :=
  ((dat2 V c).before_in_eq_fetched 4 rfl (fun _ => rfl) (fun _ _ _ => rfl)
    (fun t => by rw [after2_4]; unfold Dat.blockOf blk2; rw [A2]; try rfl) t d).trans
    (by unfold Dat.fetched Dat.blockOf blk2; rw [A2]; try rfl)

/-- What the body is called with at point `t`. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body returns at point `t`. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (body2_runs c Set.univ (grid2.coords t) _ _ _ _ _ _ _ _ _ _ _ _ (blk2 V c 0 t) (blk2 V c 1 t) (blk2 V c 2 t) (blk2 V c 3 t) (blk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body meets its obligation at every grid point. -/
theorem obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by
    unfold defs₀; rw [Defs.onTc_tc]]
  exact triple_restated (point2 V c t) rfl .rfl fun _ => .rfl

end Cert.KernelIdeal.Run

end
-- ==== Proof.Exact.Run.lean ====
/-
  The three calls in a row: what every buffer holds after each, and the whole program's run. Every execution ends, with the seven
  arguments as launched, every counter at zero, and the result array at what the third call leaves.
-/
module

public import proofs.«01_k».proof.Proof.Exact.Router
public import proofs.«01_k».proof.Proof.Exact.Moe
public import proofs.«01_k».proof.Proof.Exact.Shared
public import proofs.«01_k».proof.Proof.Gen.KernelIdeal.Regions
public import Idealize.ShloMosaic.Lib.Pipeline.RegionsLoop
public import Idealize.ShloMosaic.Lib.Pipeline.FrameSuffix
public import Idealize.ShloMosaic.Lib.Decide

@[expose] public section

set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the calls -/

/-- The seven arguments. -/
abbrev inputs : List (Ref sig .tc) := [main_arg0, main_arg1, main_arg2, main_arg3, main_arg4, main_arg5, main_arg6]

/-- At the router call's entry: the launch contents, the norm weights reshaped. -/
abbrev at1 (c : Dev nD) : Valuation τ sig (Elt F) := Gen.V1 m c

theorem at1_keeps (c : Dev nD) (r : Ref sig .tc) (h : r ∉ hostOps0_W) : at1 m c (Proc.devRef .tc r) = m ((c : Thread nD τ).loc r) :=
  Gen.V1_of m c r h

theorem at1_inputs (c : Dev nD) : ∀ a ∈ inputs, at1 m c (Proc.devRef .tc a) = m ((c : Thread nD τ).loc a) :=
  fun a ha => at1_keeps m c a ((show ∀ a ∈ inputs, a ∉ hostOps0_W from ListAll.forall_mem_of_all_decide (by decide +kernel)) a ha)

/-- The entry contents of the router call, read reference by reference. -/
abbrev in0 : Entry0 F := fun c b => at1 m c (Proc.devRef .tc b)

/-- After the router call: its arrays at what it leaves, every other buffer as it was. -/
def at2 (c : Dev nD) : Valuation τ sig (Elt F) :=
  Pipeline.withArrays spec0 c (at1 m c) fun w => (dat0 (in0 m) c).arrAt w cfg0.N

theorem at2_array (c : Dev nD) (w : Fin cfg0.W) :
    at2 m c (Proc.devRef .tc (Pipeline.arrRef spec0 w)) = (dat0 (in0 m) c).arrAt w cfg0.N := by
  unfold at2; exact Pipeline.withArrays_arr spec0 launch0.win.arr_inj c _ _ w

theorem at2_off (c : Dev nD) (b : Ref sig .tc) (hb : ∀ w, Pipeline.arrRef spec0 w ≠ b) :
    at2 m c (Proc.devRef .tc b) = at1 m c (Proc.devRef .tc b) := by
  unfold at2; exact Pipeline.withArrays_of_ne spec0 c _ _ b hb

/-- A buffer the router call does not write is as it was. -/
theorem at2_keeps (c : Dev nD) (r : Ref sig .tc) (h : ∀ w : Fin cfg0.W, Pipeline.arrRef spec0 w = r → (cfg0.win w).isOut = false) :
    at2 m c (Proc.devRef .tc r) = at1 m c (Proc.devRef .tc r) := by
  by_cases hw : ∃ w : Fin cfg0.W, Pipeline.arrRef spec0 w = r
  · obtain ⟨w, rfl⟩ := hw
    exact (at2_array m c w).trans (((dat0 (in0 m) c).arrAt_in w (h w rfl) _).trans (A0 (in0 m) c w))
  · exact at2_off m c r fun w e => hw ⟨w, e⟩

theorem at2_inputs (c : Dev nD) : ∀ a ∈ inputs, at2 m c (Proc.devRef .tc a) = m ((c : Thread nD τ).loc a) :=
  fun a ha => (at2_keeps m c a ((show ∀ a ∈ inputs, ∀ w : Fin cfg0.W, Pipeline.arrRef spec0 w = a → (cfg0.win w).isOut = false from
    ListAll.forall_mem_of_all_decide (by decide +kernel)) a ha)).trans (at1_inputs m c a ha)

/-- The entry contents of the expert call, read reference by reference. -/
abbrev in1 : Entry1 F := fun c b => at2 m c (Proc.devRef .tc b)

/-- After the expert call: its arrays at what it leaves, every other buffer as it was. -/
def at3 (c : Dev nD) : Valuation τ sig (Elt F) :=
  Pipeline.withArrays spec1 c (at2 m c) fun w => (dat1 (in1 m) c).arrAt w cfg1.N

theorem at3_array (c : Dev nD) (w : Fin cfg1.W) :
    at3 m c (Proc.devRef .tc (Pipeline.arrRef spec1 w)) = (dat1 (in1 m) c).arrAt w cfg1.N := by
  unfold at3; exact Pipeline.withArrays_arr spec1 launch1.win.arr_inj c _ _ w

theorem at3_off (c : Dev nD) (b : Ref sig .tc) (hb : ∀ w, Pipeline.arrRef spec1 w ≠ b) :
    at3 m c (Proc.devRef .tc b) = at2 m c (Proc.devRef .tc b) := by
  unfold at3; exact Pipeline.withArrays_of_ne spec1 c _ _ b hb

/-- A buffer the expert call does not write is as it was. -/
theorem at3_keeps (c : Dev nD) (r : Ref sig .tc) (h : ∀ w : Fin cfg1.W, Pipeline.arrRef spec1 w = r → (cfg1.win w).isOut = false) :
    at3 m c (Proc.devRef .tc r) = at2 m c (Proc.devRef .tc r) := by
  by_cases hw : ∃ w : Fin cfg1.W, Pipeline.arrRef spec1 w = r
  · obtain ⟨w, rfl⟩ := hw
    exact (at3_array m c w).trans (((dat1 (in1 m) c).arrAt_in w (h w rfl) _).trans (A1 (in1 m) c w))
  · exact at3_off m c r fun w e => hw ⟨w, e⟩

theorem at3_inputs (c : Dev nD) : ∀ a ∈ inputs, at3 m c (Proc.devRef .tc a) = m ((c : Thread nD τ).loc a) :=
  fun a ha => (at3_keeps m c a ((show ∀ a ∈ inputs, ∀ w : Fin cfg1.W, Pipeline.arrRef spec1 w = a → (cfg1.win w).isOut = false from
    ListAll.forall_mem_of_all_decide (by decide +kernel)) a ha)).trans (at2_inputs m c a ha)

/-- The entry contents of the shared-expert call, read reference by reference. -/
abbrev in2 : Entry2 F := fun c b => at3 m c (Proc.devRef .tc b)

/-- After the shared-expert call: its arrays at what it leaves, every other buffer as it was. -/
def at4 (c : Dev nD) : Valuation τ sig (Elt F) :=
  Pipeline.withArrays spec2 c (at3 m c) fun w => (dat2 (in2 m) c).arrAt w cfg2.N

theorem at4_array (c : Dev nD) (w : Fin cfg2.W) :
    at4 m c (Proc.devRef .tc (Pipeline.arrRef spec2 w)) = (dat2 (in2 m) c).arrAt w cfg2.N := by
  unfold at4; exact Pipeline.withArrays_arr spec2 launch2.win.arr_inj c _ _ w

theorem at4_off (c : Dev nD) (b : Ref sig .tc) (hb : ∀ w, Pipeline.arrRef spec2 w ≠ b) :
    at4 m c (Proc.devRef .tc b) = at3 m c (Proc.devRef .tc b) := by
  unfold at4; exact Pipeline.withArrays_of_ne spec2 c _ _ b hb

/-- A buffer the shared-expert call does not write is as it was. -/
theorem at4_keeps (c : Dev nD) (r : Ref sig .tc) (h : ∀ w : Fin cfg2.W, Pipeline.arrRef spec2 w = r → (cfg2.win w).isOut = false) :
    at4 m c (Proc.devRef .tc r) = at3 m c (Proc.devRef .tc r) := by
  by_cases hw : ∃ w : Fin cfg2.W, Pipeline.arrRef spec2 w = r
  · obtain ⟨w, rfl⟩ := hw
    exact (at4_array m c w).trans (((dat2 (in2 m) c).arrAt_in w (h w rfl) _).trans (A2 (in2 m) c w))
  · exact at4_off m c r fun w e => hw ⟨w, e⟩

theorem at4_inputs (c : Dev nD) : ∀ a ∈ inputs, at4 m c (Proc.devRef .tc a) = m ((c : Thread nD τ).loc a) :=
  fun a ha => (at4_keeps m c a ((show ∀ a ∈ inputs, ∀ w : Fin cfg2.W, Pipeline.arrRef spec2 w = a → (cfg2.win w).isOut = false from
    ListAll.forall_mem_of_all_decide (by decide +kernel)) a ha)).trans (at3_inputs m c a ha)

/-! ## The calls as segments of the run -/

/-- The three calls' data, each at its entry contents. -/
def pdats : (p : Fin 3) → (c : Dev nD) → Dat τ (Elt F) Unit ℕ (UR sig nD τ) ℕ (Pipeline.pin (pcfgs (F := F)) adm p) c
  | ⟨0, _⟩ => fun c => dat0 (in0 m) c
  | ⟨1, _⟩ => fun c => dat1 (in1 m) c
  | ⟨2, _⟩ => fun c => dat2 (in2 m) c

/-- No core owes another anything. -/
abbrev noLevels : GSem nD τ sig → Finset Unit := fun _ => ∅
abbrev level0 : GSem nD τ sig → Unit → ℕ := fun _ _ => 0

/-- Beside the buffers: the generator's register at some state and nothing owed. -/
abbrev rest (c : Dev nD) : sProp 𝕄 := iprop((∃ r, prngReg c r) ∗ ∃ W, owes (c : Thread nD τ) (0 : CellTallies nD τ sig Unit) W)

/-- The last state without what is owed. -/
abbrev done (c : Dev nD) : sProp 𝕄 := iprop(StableHlo.held (c : Thread nD τ) (Pipeline.ucRefs τ sig) (at4 m c) ∗ ∃ r, prngReg c r)

set_option backward.isDefEq.respectTransparency.types false in
/-- The router call, from every buffer at `at1` to every buffer at `at2`. -/
def call0 : Pipeline.RegionSeg (pcfgs (F := F)) adm (pdats m) () defs₀ Variants.none noLevels level0 0 where
  win := launch0.win.to₀
  block_pos := launch0.block_pos
  stage_whole := launch0.stage_whole
  K := PEmpty
  osem k := k.elim
  ho := Pipeline.OwnSemFacts.none _
  hbody c := (obligation0 (in0 m) c).loose
  hwaits := Pipeline.hwaits_of_owed_zero _ _ _ _ noLevels level0 0 fun _ _ => rfl
  pre c := iprop(StableHlo.held (c : Thread nD τ) (Pipeline.ucRefs τ sig) (at1 m c) ∗ rest c)
  post c := iprop(StableHlo.held (c : Thread nD τ) (Pipeline.ucRefs τ sig) (at2 m c) ∗ rest c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (in0 m c) (A0 (in0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (in0 m c) (fun b => at2 m c (Proc.devRef .tc b)) ((pdats m 0 c).arrAt · cfg0.N) (fun w => (at2_array m c w).symm)
      (fun b hb => at2_off m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The expert call, from every buffer at `at2` to every buffer at `at3`. -/
def call1 : Pipeline.RegionSeg (pcfgs (F := F)) adm (pdats m) () defs₀ Variants.none noLevels level0 1 where
  win := launch1.win.to₀
  block_pos := launch1.block_pos
  stage_whole := launch1.stage_whole
  K := PEmpty
  osem k := k.elim
  ho := Pipeline.OwnSemFacts.none _
  hbody c := (obligation1 (in1 m) c).loose
  hwaits := Pipeline.hwaits_of_owed_zero _ _ _ _ noLevels level0 1 fun _ _ => rfl
  pre c := iprop(StableHlo.held (c : Thread nD τ) (Pipeline.ucRefs τ sig) (at2 m c) ∗ rest c)
  post c := iprop(StableHlo.held (c : Thread nD τ) (Pipeline.ucRefs τ sig) (at3 m c) ∗ rest c)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (in1 m c) (A1 (in1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (in1 m c) (fun b => at3 m c (Proc.devRef .tc b)) ((pdats m 1 c).arrAt · cfg1.N) (fun w => (at3_array m c w).symm)
      (fun b hb => at3_off m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The shared-expert call, from every buffer at `at3` to every buffer at `at4`. -/
def call2 : Pipeline.RegionSeg (pcfgs (F := F)) adm (pdats m) () defs₀ Variants.none noLevels level0 2 where
  win := launch2.win.to₀
  block_pos := launch2.block_pos
  stage_whole := launch2.stage_whole
  K := PEmpty
  osem k := k.elim
  ho := Pipeline.OwnSemFacts.none _
  hbody c := (obligation2 (in2 m) c).loose
  hwaits := Pipeline.hwaits_of_owed_zero _ _ _ _ noLevels level0 2 fun _ _ => rfl
  pre c := iprop(StableHlo.held (c : Thread nD τ) (Pipeline.ucRefs τ sig) (at3 m c) ∗ rest c)
  post c := iprop(done m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (in2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (in2 m c) (A2 (in2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (in2 m c) (fun b => at4 m c (Proc.devRef .tc b)) ((pdats m 2 c).arrAt · cfg2.N) (fun w => (at4_array m c w).symm)
      (fun b hb => at4_off m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The program as segments: the reshape, then the three calls. -/
abbrev parts : List (Pipeline.Seg (pcfgs (F := F)) adm (pdats m) () defs₀ Variants.none noLevels level0) :=
  [.host (Gen.seg0 m Variants.none noLevels level0 fun _ => rest), .region (call0 m), .region (call1 m), .region (call2 m)]

theorem main_parts (c : Dev nD) : main (F := F) c = Pipeline.Seg.run (parts m) := (main_chain c).trans (by chain_rfl)

theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every execution ends with every unscoped buffer at `at4` and every counter at zero. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = at4 m c b)
      ∧ r.2.sem = fun _ => 0) :=
  Pipeline.θ_run_regions_kit_sems (pcfgs (F := F)) adm (pdats m) () cellOf_inj emb₁ defs₀ Variants.none noLevels level0 m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c)) (Tₙ := done m)
    (hch := ⟨fun _ => .rfl, fun _ => .rfl, fun _ => .rfl, fun _ => .rfl, fun _ => .rfl⟩)
    (hinit := by
      refine Pipeline.initEach noLevels level0 fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at4 m c b)
    (hfin := fun c s' => by
      iintro ⟨⟨Hh, -⟩, HSI⟩
      unfold StableHlo.held
      imodintro
      iapply (pointsTo_read_all (Pipeline.ucRefs τ sig) (fun b => (((c : Thread nD τ)).1, b)) (at4 m c) s')
      isplitl [Hh] <;> iassumption)
    (hQ := fun s h hz => ⟨h, funext fun g => hz g (.inr (regions_no_unscoped g.2))⟩)

/-- The same read at the arguments, which end as launched, and at the result, which ends at what the third call leaves. -/
theorem runs : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
      ∧ ∀ c : Dev nD, r.2.mem ((c.tc : Thread nD τ).loc main_v0) = (dat2 (in2 m) c).arrAt 5 cfg2.N) :=
  (θ_run defs _ _).mono (fun _ h =>
    ⟨⟨fun c => ⟨(h.1 c _ (unscoped_mem main_arg0 (by decide))).trans (at4_inputs m c main_arg0 (by decide)),
      (h.1 c _ (unscoped_mem main_arg1 (by decide))).trans (at4_inputs m c main_arg1 (by decide)),
      (h.1 c _ (unscoped_mem main_arg2 (by decide))).trans (at4_inputs m c main_arg2 (by decide)),
      (h.1 c _ (unscoped_mem main_arg3 (by decide))).trans (at4_inputs m c main_arg3 (by decide)),
      (h.1 c _ (unscoped_mem main_arg4 (by decide))).trans (at4_inputs m c main_arg4 (by decide)),
      (h.1 c _ (unscoped_mem main_arg5 (by decide))).trans (at4_inputs m c main_arg5 (by decide)),
      (h.1 c _ (unscoped_mem main_arg6 (by decide))).trans (at4_inputs m c main_arg6 (by decide))⟩, h.2⟩,
      fun c => (h.1 c _ (unscoped_mem main_v0 (by decide))).trans (at4_array m c 5)⟩) (ends m ρ)

/-- The frame: the arguments end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => h.1) (runs m ρ)

end Cert.KernelIdeal.Run

end
-- ==== Proof.Exact.TopTwo.lean ====
/-
  The two greatest of eight numbers.

  `Best p i` says that position `i` holds the greatest of the eight extended reals `p`, and is the first position that does.
  This module states the two readings of it that the programs use: a maximum over the eight followed by the least position
  that attains it (the kernel), and the first two entries of a stable sort, greatest first (the reference).
-/
module

public import Idealize.ShloMosaic.Lib.SortFacts
public import Idealize.ShloMosaic.PureOps.Ideal.Laws

@[expose] public section

noncomputable section

namespace Cert.TopTwo

open Idealize.ShloMosaic

/-- Position `i` holds the greatest of the eight numbers, and no earlier position holds as much. -/
def Best (p : Fin 8 → EReal) (i : Fin 8) : Prop := ∀ e, e ≠ i → p e < p i ∨ (p e = p i ∧ i < e)

/-- The eight numbers with the one at `i` replaced by −∞. -/
def without (p : Fin 8 → EReal) (i : Fin 8) : Fin 8 → EReal := fun e => if e = i then ⊥ else p e

theorem Best.le {p : Fin 8 → EReal} {i : Fin 8} (h : Best p i) (e : Fin 8) : p e ≤ p i := by
  by_cases he : e = i
  · rw [he]
  · rcases h e he with h1 | ⟨h1, _⟩
    · exact h1.le
    · exact h1.le

/-- The maximum of the eight is the number at the best position. -/
theorem Best.max_eq {p : Fin 8 → EReal} {i : Fin 8} (h : Best p i) :
    (Finset.univ : Finset (Fin 8)).fold max ⊥ p = p i :=
  le_antisymm (Finset.fold_max_le _ |>.mpr ⟨bot_le, fun e _ => h.le e⟩)
    (Finset.le_fold_max _ |>.mpr (Or.inr ⟨i, Finset.mem_univ i, le_refl _⟩))

/-- Of the positions that attain the maximum the best one is the least. -/
theorem Best.first {p : Fin 8 → EReal} {i : Fin 8} (h : Best p i) {e : Fin 8} (he : p e = p i) : i ≤ e := by
  by_cases hi : e = i
  · rw [hi]
  · rcases h e hi with h1 | ⟨_, h1⟩
    · exact absurd he h1.ne
    · exact h1.le

/-- `a`'s number is strictly greater than `b`'s: what the sort compares. -/
def ahead (p : Fin 8 → EReal) (a b : Fin 8) : Bool := decide (p b < p a)

/-- The same with ties broken by position: the lower one first. -/
def aheadFirst (p : Fin 8 → EReal) (a b : Fin 8) : Bool := decide (p b < p a ∨ (p b = p a ∧ a < b))

/-- A stable sort of an increasing list of positions breaks ties by position. -/
theorem sort_increasing (p : Fin 8 → EReal) :
    ∀ l : List (Fin 8), l.Pairwise (· < ·) → stableSort (ahead p) l = stableSort (aheadFirst p) l
  | [], _ => rfl
  | a :: l, h => by
    rw [List.pairwise_cons] at h
    unfold stableSort
    rw [sort_increasing p l h.2]
    refine insertBefore_congr _ _ a _ fun b hb => ?_
    have hab : a < b := h.1 b ((perm_stableSort _ l).mem_iff.mp hb)
    have hn : ¬ (p a = p b ∧ b < a) := fun hh => absurd hh.2 (not_lt.mpr hab.le)
    simp only [ahead, aheadFirst, hn, or_false]

theorem sorted_eq (p : Fin 8 → EReal) : sortedFrom (ahead p) = sortedFrom (aheadFirst p) := by
  funext k
  have h : sortPositions 8 (ahead p) = sortPositions 8 (aheadFirst p) :=
    sort_increasing p (List.finRange 8) (List.pairwise_lt_finRange 8)
  unfold sortedFrom
  rw [List.get_of_eq h]
  rfl

/-- The entry a stable sort, greatest first, puts at a place stands before those at later places. -/
theorem sorted_before (p : Fin 8 → EReal) {i j : Fin 8} (h : i < j) :
    p (sortedFrom (ahead p) j) < p (sortedFrom (ahead p) i)
      ∨ (p (sortedFrom (ahead p) j) = p (sortedFrom (ahead p) i) ∧ sortedFrom (ahead p) i < sortedFrom (ahead p) j) := by
  have key := sortedFrom_noInversion (aheadFirst p) (aheadFirst p) (fun a b hab => ?_) (fun _ _ hab => hab)
    (fun a b c hab hbc => ?_) i j h
  · rw [← sorted_eq] at key
    have hne : sortedFrom (ahead p) i ≠ sortedFrom (ahead p) j :=
      fun e => absurd (sortedFrom_injective (ahead p) e) h.ne
    simp only [aheadFirst, decide_eq_false_iff_not, not_or, not_and, not_lt] at key
    rcases lt_or_eq_of_le key.1 with h1 | h1
    · exact Or.inl h1
    · exact Or.inr ⟨h1, lt_of_le_of_ne (key.2 h1.symm) hne⟩
  · simp only [aheadFirst, decide_eq_true_eq, decide_eq_false_iff_not, not_or, not_and, not_lt] at hab ⊢
    rcases hab with h1 | ⟨h1, h2⟩
    · exact ⟨h1.le, fun e => absurd e h1.ne'⟩
    · exact ⟨h1.le, fun _ => h2.le⟩
  · simp only [aheadFirst, decide_eq_false_iff_not, not_or, not_and, not_lt] at hab hbc ⊢
    refine ⟨hab.1.trans hbc.1, fun e => ?_⟩
    have h1 : p a = p b := le_antisymm hab.1 (hbc.1.trans e.le)
    have h2 : p b = p c := le_antisymm hbc.1 (e.le.trans hab.1)
    exact (hbc.2 h2.symm).trans (hab.2 h1.symm)

/-- The first entry of the sort is the best position. -/
theorem best_first (p : Fin 8 → EReal) : Best p (sortedFrom (ahead p) 0) := fun e he => by
  obtain ⟨j, rfl⟩ := sortedFrom_surjective (ahead p) e
  exact sorted_before p (Fin.pos_iff_ne_zero.mpr fun h => he (by rw [h]))

/-- The second entry of the sort is the best position once the first is taken out, if no number is −∞. -/
theorem best_second (p : Fin 8 → EReal) (hp : ∀ e, p e ≠ ⊥) :
    Best (without p (sortedFrom (ahead p) 0)) (sortedFrom (ahead p) 1) := fun e he => by
  have h10 : sortedFrom (ahead p) 1 ≠ sortedFrom (ahead p) 0 :=
    fun h => absurd (sortedFrom_injective (ahead p) h) (by decide)
  unfold without
  rw [if_neg h10]
  by_cases h0 : e = sortedFrom (ahead p) 0
  · rw [if_pos h0]
    exact Or.inl (bot_lt_iff_ne_bot.mpr (hp _))
  · rw [if_neg h0]
    obtain ⟨j, rfl⟩ := sortedFrom_surjective (ahead p) e
    refine sorted_before p ?_
    have hj0 : j ≠ 0 := fun h => h0 (by rw [h])
    have hj1 : j ≠ 1 := fun h => he (by rw [h])
    have := Fin.val_ne_of_ne hj0
    have := Fin.val_ne_of_ne hj1
    have e0 : ((0 : Fin 8) : ℕ) = 0 := rfl
    have e1 : ((1 : Fin 8) : ℕ) = 1 := rfl
    rw [Fin.lt_def]
    omega

theorem second_ne_first (p : Fin 8 → EReal) : sortedFrom (ahead p) 1 ≠ sortedFrom (ahead p) 0 :=
  fun h => absurd (sortedFrom_injective (ahead p) h) (by decide)

end Cert.TopTwo
-- ==== Proof.Exact.Formula.lean ====
/-
  The layer's mathematics, one row at a time, over the extended reals.

  A row `x` of the input is scaled by the root of its mean square and a weight (`unit`), scored against the eight gate rows
  and passed through a softmax (`chance`); the two greatest of the eight chances, divided by their sum, are the row's
  weights (`weights`). An expert is a gated unit (`gated`) on the scaled row. The laws below are the ones in which the
  two programs' arithmetic differs.
-/
module

public import proofs.«01_k».proof.Proof.Exact.TopTwo
public import Idealize.ShloMosaic.Lib.IdealHost

@[expose] public section

noncomputable section

namespace Cert.Formula

open Idealize.ShloMosaic Cert.TopTwo

/-- A row scaled by the reciprocal root of its mean square, and by a weight for each column. -/
def unit (x w : Fin 1024 → EReal) (j : Fin 1024) : EReal :=
  x j * Ideal.rsqrt (Ideal.div (∑ k, x k * x k) (Ideal.ofBits .f32 0x44800000#32) + Ideal.ofBits .f32 0x358637BD#32) * w j

/-- The greatest of eight numbers. -/
def most (g : Fin 8 → EReal) : EReal := (Finset.univ : Finset (Fin 8)).fold max ⊥ g

/-- The softmax of eight scores. -/
def chance (g : Fin 8 → EReal) (e : Fin 8) : EReal :=
  Ideal.div (Ideal.exp (g e - most g)) (∑ k, Ideal.exp (g k - most g))

/-- Two numbers, each divided by their sum, put at two positions of eight. -/
def pair (v w : EReal) (i j e : Fin 8) : EReal :=
  (if e = i then Ideal.div v (v + w) else 0) + (if e = j then Ideal.div w (v + w) else 0)

/-- The position of the greatest of eight numbers, the first of several. -/
def first (p : Fin 8 → EReal) : Fin 8 := sortedFrom (ahead p) 0

/-- The position of the greatest of the others. -/
def second (p : Fin 8 → EReal) : Fin 8 := first (without p (first p))

/-- The two greatest of eight numbers, each divided by their sum, at their positions; zero elsewhere. -/
def weights (p : Fin 8 → EReal) (e : Fin 8) : EReal :=
  pair (p (first p)) (without p (first p) (second p)) (first p) (second p) e

/-- `g` times the logistic function of `g`. -/
def swish (g : EReal) : EReal := Ideal.div g (1 + Ideal.exp (-g))

/-- A gated unit's output: gate values `g`, plain values `u`, one row `d` of the outgoing weights. -/
def gated {n : ℕ} (g u d : Fin n → EReal) : EReal := ∑ f, swish (g f) * u f * d f

/-- The scores of a row against the rows of a matrix. -/
def score {n m : ℕ} (h : Fin m → EReal) (w : Fin n → Fin m → EReal) (f : Fin n) : EReal := ∑ k, h k * w f k

/-- One number a gated unit puts out for a row `h`: the first `n` rows of `w` give its gate, the next `n` its plain values. -/
def ffn {n m : ℕ} (hm : n + n = m) (h : Fin 1024 → EReal) (w : Fin m → Fin 1024 → EReal) (d : Fin n → EReal) : EReal :=
  gated (fun f : Fin n => score h w ⟨f.val, by omega⟩) (fun f : Fin n => score h w ⟨n + f.val, by omega⟩) d

theorem best_of_first (p : Fin 8 → EReal) : Best p (first p) := best_first p

theorem best_unique {p : Fin 8 → EReal} {i j : Fin 8} (hi : Best p i) (hj : Best p j) : i = j :=
  le_antisymm (hi.first (le_antisymm (hi.le j) (hj.le i))) (hj.first (le_antisymm (hj.le i) (hi.le j)))

theorem exp_nonneg (x : EReal) : 0 ≤ Ideal.exp x := by
  induction x with
  | bot => exact le_refl _
  | top => exact le_top
  | coe r => exact EReal.coe_nonneg.mpr (Real.exp_pos r).le

/-- The eight chances are all −∞ (the scores' maximum is infinite), or none of them is. -/
theorem chance_bot (g : Fin 8 → EReal) : (∀ e, chance g e = ⊥) ∨ (∀ e, chance g e ≠ ⊥) := by
  by_cases hs : (∑ k, Ideal.exp (g k - most g)) = 0
  · refine Or.inl fun e => ?_
    have he : Ideal.exp (g e - most g) = 0 :=
      (Finset.sum_eq_zero_iff_of_nonneg fun k _ => exp_nonneg _).mp hs e (Finset.mem_univ e)
    unfold chance Ideal.div
    rw [if_pos hs, he, if_neg (lt_irrefl _)]
  · refine Or.inr fun e => ?_
    have hn : 0 ≤ (∑ k, Ideal.exp (g k - most g)) := Finset.sum_nonneg fun k _ => exp_nonneg _
    unfold chance Ideal.div
    rw [if_neg hs]
    have h0 : (0 : EReal) ≤ Ideal.exp (g e - most g) * (∑ k, Ideal.exp (g k - most g))⁻¹ :=
      mul_nonneg (exp_nonneg _) (EReal.inv_nonneg_of_nonneg hn)
    exact fun h => absurd (h ▸ h0) (by decide)

/-- The weights of a row are the first two of its chances in descending order, each divided by their sum. -/
theorem weights_eq_sorted (g : Fin 8 → EReal) (e : Fin 8) :
    weights (chance g) e
      = pair (chance g (sortedFrom (ahead (chance g)) 0)) (chance g (sortedFrom (ahead (chance g)) 1))
          (sortedFrom (ahead (chance g)) 0) (sortedFrom (ahead (chance g)) 1) e := by
  rcases chance_bot g with h | h
  · have hz : Ideal.div (⊥ : EReal) (⊥ + ⊥) = 0 := by
      unfold Ideal.div
      rw [if_neg (by decide), EReal.bot_add, EReal.inv_bot, mul_zero]
    have hw : without (chance g) (first (chance g)) (second (chance g)) = ⊥ := by
      unfold without
      split
      · rfl
      · exact h _
    unfold weights pair
    rw [hw, h (first (chance g)), h (sortedFrom (ahead (chance g)) 0), h (sortedFrom (ahead (chance g)) 1), hz]
    simp only [ite_self]
  · have h2 : second (chance g) = sortedFrom (ahead (chance g)) 1 :=
      best_unique (best_of_first _) (best_second (chance g) h)
    have hw : without (chance g) (first (chance g)) (second (chance g)) = chance g (sortedFrom (ahead (chance g)) 1) := by
      rw [h2]
      unfold without
      exact if_neg (second_ne_first (chance g))
    unfold weights
    rw [hw, h2]
    rfl

theorem one_add_exp_ne_zero (x : EReal) : 1 + Ideal.exp x ≠ 0 := fun h => by
  have h1 : (1 : EReal) ≤ 1 + Ideal.exp x := le_add_of_nonneg_right (exp_nonneg x)
  rw [h] at h1
  exact absurd h1 (not_le.mpr zero_lt_one)

/-- The reference multiplies by the logistic function, the kernel divides by its denominator. -/
theorem mul_logistic (g : EReal) : g * Ideal.div 1 (1 + Ideal.exp (-g)) = swish g :=
  Ideal.mul_one_div (one_add_exp_ne_zero _)

theorem ofBits_bot : Ideal.ofBits .f32 0xFF800000#32 = ⊥ := by simp [Ideal.ofBits, Ideal.ieee]

end Cert.Formula
-- ==== Proof.Exact.Rows.lean ====
/-
  Operations on a matrix read at a row: a reduction along the row, a column spread over the row, and the least position
  of a row that meets a condition, as a 32-bit word.
-/
module

public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.PureOps.Ideal.Laws

@[expose] public section

noncomputable section

namespace Cert.Rows

open Idealize.ShloMosaic Idealize.ShloMosaic.ValueIdx

/-- The index a reduction along a matrix's rows reads: the row and the position in it. -/
theorem lift_row {a b : ℕ} (h : Shape.Reduces ⟨2, ![a, b]⟩ [1] ⟨1, ![a]⟩) (r : Fin a) (k : Fin b) :
    h.lift (ix1 r) k = ix2 r k :=
  funext fun d => Fin.ext (match d with | ⟨0, _⟩ => rfl | ⟨1, _⟩ => rfl)

theorem row_sum {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  rw [Ideal.multiReduction_add_single]
  exact Finset.sum_congr rfl fun k _ => by rw [lift_row h r k]

theorem row_max {a b : ℕ} (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max (Ideal.ofBits .f32 0xFF800000#32) (fun k => v (ix2 r k)) := by
  rw [Ideal.multiReduction_maximumf_single]
  exact Finset.fold_congr fun k _ => congrArg v (lift_row h r k)

theorem row_least {a b : ℕ} (v : IVec ⟨2, ![a, b]⟩ 32) (h : Shape.Reduces ⟨2, ![a, b]⟩ [1] ⟨1, ![a]⟩)
    (hacc : (2147483647#32 : BitVec 32) = IKind.minsi.neutral) (r : Fin a) :
    multiReductionI .minsi [1] ⟨1, ![a]⟩ v 2147483647#32 h hacc (ix1 r)
      = (Finset.univ : Finset (Fin b)).fold IntOp.minsi 2147483647#32 (fun k => v (ix2 r k)) := by
  rw [multiReductionI_eq_fold]
  refine (h.fold_filter_drop_single IntOp.minsi _ v (ix1 r)).trans ?_
  exact Finset.fold_congr fun k _ => congrArg v (lift_row h r k)

/-- A one-column matrix spread over `b` columns reads its row's one element. -/
theorem spread_column {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Of eight positions, marked or not, the least marked one, taken as a minimum of words in which the unmarked ones read 8. -/
theorem least_marked : ∀ (c : Fin 8 → Bool) (i : Fin 8), c i = true → (∀ e, c e = true → i ≤ e) →
    (Finset.univ : Finset (Fin 8)).fold IntOp.minsi 2147483647#32
      (fun e => bif c e then BitVec.ofNat 32 e.val else 8#32) = BitVec.ofNat 32 i.val := by
  decide +kernel

theorem select_ofBool {α : Type} (c : Bool) (x y : α) : Scalar.select (BitVec.ofBool c) x y = bif c then x else y := by
  cases c <;> rfl

/-- Two positions of eight agree as 32-bit words exactly when they are the same. -/
theorem word_eq : ∀ i e : Fin 8, IntOp.cmpi .eq (BitVec.ofNat 32 e.val) (BitVec.ofNat 32 i.val) = BitVec.ofBool (decide (e = i)) := by
  decide

end Cert.Rows
-- ==== Proof.Exact.RouterValue.lean ====
/-
  What the router call's body computes, row by row: the scaled rows and the eight weights of each.
-/
module

public import proofs.«01_k».proof.Proof.Gen.KernelIdeal.Skeleton
public import proofs.«01_k».proof.Proof.Exact.Formula
public import proofs.«01_k».proof.Proof.Exact.Rows

@[expose] public section

noncomputable section

namespace Cert.KernelIdeal.RouterValue

open Cert.KernelIdeal Cert.KernelIdeal.Gen Idealize.ShloMosaic Idealize.ShloMosaic.ValueIdx
open Cert.Formula Cert.Rows Cert.TopTwo

variable (x : Vec Ideal S2048x1024 .f32) (w : Vec Ideal S1x1024 .f32) (g : Vec Ideal S8x1024 .f32)

/-- Row `r` of the scaled input. -/
def hid (r : Fin 2048) : Fin 1024 → EReal := unit (fun k => x (ix2 r k)) (fun k => w (ix2 (0 : Fin 1) k))

/-- The scaled input, as the body stores it. -/
theorem scaled (r : Fin 2048) (j : Fin 1024) : k0_pay2 (F := Ideal) x w (ix2 r j) = hid x w r j := by
  unfold k0_pay2
  show (x (ix2 r j) * broadcastTo S2048x1024 _ broadcasts_S2048x1_S2048x1024 (ix2 r j))
    * broadcastTo S2048x1024 _ broadcasts_S1x1024_S2048x1024 (ix2 r j) = _
  rw [spread_column, broadcastTo_1b_ab_apply, shapeCast_self]
  show (x (ix2 r j) * Ideal.rsqrt (Ideal.div (shapeCast S2048x1 _ shapeCasts_S2048_S2048x1 (ix2 r 0)) _ + _)) * _ = _
  rw [shapeCast_a_a1_apply]
  exact congrArg (fun z => x (ix2 r j) * Ideal.rsqrt (Ideal.div z (Ideal.ofBits .f32 0x44800000#32) + Ideal.ofBits .f32 0x358637BD#32)
    * w (ix2 (0 : Fin 1) j)) (row_sum (a := 2048) (b := 1024) (mulf x x) _ _ _ r)

/-- The eight scores of row `r`. -/
def scores (r : Fin 2048) : Fin 8 → EReal := score (hid x w r) (fun e k => g (ix2 e k))

/-- The softmax of the scores. -/
theorem chances (r : Fin 2048) (e : Fin 8) : k0_pay3 (F := Ideal) x w g (ix2 r e) = chance (scores x w g r) e := by
  have hm : ∀ e : Fin 8, matmul dot_S2048x1024_S8x1024_S2048x8_1_1_0_0_n_n none (k0_pay2 (F := Ideal) x w) g
      (constant S2048x8 .f32 0x00000000#32) (ix2 r e) = scores x w g r e := fun e => by
    refine (Ideal.matmul_transposedRhs_apply (M := 2048) (K := 1024) (N := 8) none (k0_pay2 (F := Ideal) x w) g _ r e).trans ?_
    rw [constant_apply, Ideal.ofBits_zero_f32, zero_add]
    exact Finset.sum_congr rfl fun k _ => congrArg (fun z => z * g (ix2 e k)) (scaled x w r k)
  have hx : ∀ e : Fin 8, subf (matmul dot_S2048x1024_S8x1024_S2048x8_1_1_0_0_n_n none (k0_pay2 (F := Ideal) x w) g
      (constant S2048x8 .f32 0x00000000#32)) (broadcastTo S2048x8 (shapeCast S2048x1 (multiReduction .maximumf [1] S2048
        (matmul dot_S2048x1024_S8x1024_S2048x8_1_1_0_0_n_n none (k0_pay2 (F := Ideal) x w) g (constant S2048x8 .f32 0x00000000#32))
        0xFF800000#32 reduces_S2048x8_S2048 (.inl rfl) rfl) shapeCasts_S2048_S2048x1) broadcasts_S2048x1_S2048x8) (ix2 r e)
      = scores x w g r e - most (scores x w g r) := fun e => by
    rw [subf_apply, hm]
    refine congrArg (fun z => scores x w g r e - z) ((spread_column (a := 2048) (b := 8) _ _ r e).trans
      ((shapeCast_a_a1_apply _ _ r 0).trans ((row_max (a := 2048) (b := 8) _ _ _ _ r).trans ?_)))
    rw [ofBits_bot]
    exact Finset.fold_congr fun k _ => hm k
  unfold k0_pay3
  refine congrArg₂ Ideal.div (congrArg Ideal.exp (hx e)) ((spread_column (a := 2048) (b := 8) _ _ r e).trans
    ((shapeCast_a_a1_apply _ _ r 0).trans ((row_sum (a := 2048) (b := 8) _ _ _ _ r).trans ?_)))
  exact (Finset.sum_congr rfl fun k _ => congrArg Ideal.exp (hx k))

/-- The greatest chance of a row. -/
theorem greatest (r : Fin 2048) :
    k0_pay4 (F := Ideal) x w g (ix2 r (0 : Fin 1)) = chance (scores x w g r) (first (chance (scores x w g r))) := by
  unfold k0_pay4
  refine (shapeCast_a_a1_apply _ _ r 0).trans ((row_max (a := 2048) (b := 8) _ _ _ _ r).trans ?_)
  rw [ofBits_bot, ← (best_of_first (chance (scores x w g r))).max_eq]
  exact Finset.fold_congr fun k _ => chances x w g r k

/-- The least position at which a row attains its maximum, from any matrix whose row is `p`. -/
theorem position (v : FVec Ideal S2048x8 .f32) (m : FVec Ideal S2048x1 .f32) (r : Fin 2048) (p : Fin 8 → EReal) (i : Fin 8)
    (hv : ∀ e, v (ix2 r e) = p e) (hi : Best p i) (hm : m (ix2 r (0 : Fin 1)) = p i) :
    multiReductionI .minsi [1] S2048 (select (cmpf .oeq v (broadcastTo S2048x8 m broadcasts_S2048x1_S2048x8))
      (iota .tc S2048x8 32 [1] iota_S2048x8_d1_w32) (broadcast S2048x8 8#32)) 2147483647#32 reduces_S2048x8_S2048 rfl (ix1 r)
      = BitVec.ofNat 32 i.val := by
  refine (row_least (a := 2048) (b := 8) _ _ _ r).trans ?_
  rw [← least_marked (fun e => decide (p e = p i)) i (by simp) (fun e he => hi.first (of_decide_eq_true he))]
  refine Finset.fold_congr fun e _ => ?_
  rw [select_apply, cmpf_apply, spread_column, hm, hv, broadcast_apply]
  exact (congrArg (fun z => Scalar.select (FloatOps.cmpf (F := Ideal) (φ := .f32) .oeq (p e) (p i)) z 8#32)
    (iota_single_apply .tc S2048x8 32 1 iota_S2048x8_d1_w32 (ix2 r e))).trans (select_ofBool (decide (p e = p i)) _ _)

/-- The position of the greatest chance. -/
theorem greatest_at (r : Fin 2048) :
    k0_pay5 (F := Ideal) x w g (ix2 r (0 : Fin 1)) = BitVec.ofNat 32 (first (chance (scores x w g r))).val := by
  unfold k0_pay5
  rw [shapeCast_a_a1_apply]
  exact position _ _ r _ _ (chances x w g r) (best_of_first _) (greatest x w g r)

/-- Whether a lane is the one a column of positions names. -/
theorem lane_is (v : IVec S2048x1 32) (r : Fin 2048) (i e : Fin 8) (hv : v (ix2 r (0 : Fin 1)) = BitVec.ofNat 32 i.val) :
    cmpi .eq (iota .tc S2048x8 32 [1] iota_S2048x8_d1_w32) (broadcastTo S2048x8 v broadcasts_S2048x1_S2048x8) (ix2 r e)
      = BitVec.ofBool (decide (e = i)) := by
  refine Eq.trans ?_ (word_eq i e)
  refine congrArg₂ (IntOp.cmpi .eq) (iota_single_apply .tc S2048x8 32 1 iota_S2048x8_d1_w32 (ix2 r e)) ((spread_column (a := 2048) (b := 8) v _ r e).trans hv)

/-- The chances with the greatest taken out. -/
theorem others (r : Fin 2048) (e : Fin 8) :
    k0_pay6 (F := Ideal) x w g (ix2 r e) = without (chance (scores x w g r)) (first (chance (scores x w g r))) e := by
  unfold k0_pay6
  rw [select_apply, chances, broadcast_apply, lane_is _ r _ e (greatest_at x w g r), select_ofBool]
  refine (congrArg (fun z => bif decide (e = first (chance (scores x w g r))) then z else chance (scores x w g r) e) ofBits_bot).trans ?_
  unfold without
  by_cases h : e = first (chance (scores x w g r)) <;> simp [h]

/-- A column of values put at the lanes a column of positions names, zero elsewhere. -/
theorem placed (v : IVec S2048x1 32) (a : FVec Ideal S2048x1 .f32) (r : Fin 2048) (i e : Fin 8)
    (hv : v (ix2 r (0 : Fin 1)) = BitVec.ofNat 32 i.val) :
    select (cmpi .eq (iota .tc S2048x8 32 [1] iota_S2048x8_d1_w32) (broadcastTo S2048x8 v broadcasts_S2048x1_S2048x8))
      (broadcastTo S2048x8 (shapeCast S2048x1 a shapeCasts_S2048x1_S2048x1) broadcasts_S2048x1_S2048x8)
      (broadcast S2048x8 (Scalar.ofBits (F := Ideal) .f32 0x00000000#32)) (ix2 r e)
      = if e = i then a (ix2 r (0 : Fin 1)) else 0 := by
  have hzero : (Scalar.ofBits (F := Ideal) .f32 0x00000000#32 : EReal) = 0 := Ideal.ofBits_zero_f32
  rw [select_apply, lane_is v r i e hv, select_ofBool, broadcast_apply, hzero, spread_column, shapeCast_self]
  by_cases h : e = i <;> simp [h]

/-- The second half of the body's first part: from the greatest of a row and its position, and the row without it. -/
theorem combined_of (m : FVec Ideal S2048x1 .f32) (v : IVec S2048x1 32) (q : FVec Ideal S2048x8 .f32) (r : Fin 2048)
    (a : EReal) (i j : Fin 8) (p : Fin 8 → EReal) (hm : m (ix2 r (0 : Fin 1)) = a) (hv : v (ix2 r (0 : Fin 1)) = BitVec.ofNat 32 i.val)
    (hq : ∀ e, q (ix2 r e) = p e) (hj : Best p j) (e : Fin 8) :
    k0_pay1 (F := Ideal) (iota .tc S2048x8 32 [1] iota_S2048x8_d1_w32) m v q (ix2 r e) = pair a (p j) i j e := by
  have hmax : shapeCast S2048x1 (multiReduction .maximumf [1] S2048 q 0xFF800000#32 reduces_S2048x8_S2048 (.inl rfl) rfl)
      shapeCasts_S2048_S2048x1 (ix2 r (0 : Fin 1)) = p j := by
    refine (shapeCast_a_a1_apply _ _ r 0).trans ((row_max (a := 2048) (b := 8) _ _ _ _ r).trans ?_)
    rw [ofBits_bot, ← hj.max_eq]
    exact Finset.fold_congr fun k _ => hq k
  unfold k0_pay1 pair
  refine congrArg₂ (fun y z : EReal => y + z) ((placed v _ r i e hv).trans ?_) ((placed _ _ r j e ((shapeCast_a_a1_apply _ _ r 0).trans
    (position q _ r p j hq hj hmax))).trans ?_)
  · rw [divf_apply, addf_apply, hmax, hm]
  · rw [divf_apply, addf_apply, hmax, hm]

/-- The weights of a row, as the body stores them. -/
theorem combined (r : Fin 2048) (e : Fin 8) :
    k0_pay1 (F := Ideal) (iota .tc S2048x8 32 [1] iota_S2048x8_d1_w32) (k0_pay4 (F := Ideal) x w g) (k0_pay5 (F := Ideal) x w g)
      (k0_pay6 (F := Ideal) x w g) (ix2 r e) = weights (chance (scores x w g r)) e :=
  combined_of _ _ _ r _ _ _ _ (greatest x w g r) (greatest_at x w g r) (others x w g r) (best_of_first _) e

end Cert.KernelIdeal.RouterValue
-- ==== Proof.Exact.RouterArrays.lean ====
/-
  What the router call leaves in its two result arrays: the scaled input and the rows' weights.
-/
module

public import proofs.«01_k».proof.Proof.Exact.Router
public import proofs.«01_k».proof.Proof.Exact.RouterValue

@[expose] public section

set_option maxRecDepth 16384

noncomputable section

namespace Cert.KernelIdeal.Run

open Cert.KernelIdeal Cert.KernelIdeal.Gen Idealize.ShloMosaic Idealize.ShloMosaic.TcCoe Idealize.ShloMosaic.ValueIdx
open Cert.Formula Cert.KernelIdeal.RouterValue
open Idealize.ShloMosaic.Pipeline (Dat Cfg Window)

theorem zeros2 : (![0, 0] : Fin 2 → Nat) = fun _ => 0 := funext fun a => match a with | ⟨0, _⟩ => rfl | ⟨1, _⟩ => rfl

/-! Every window's block is the whole of its array. -/

theorem at0_0 : ∀ t : Fin cfg0.N, win0_0.index t (0 : Fin 2) = 0 ∧ win0_0.index t (1 : Fin 2) = 0 := (by decide +kernel : ∀ t : Fin grid0.N, _)
theorem at0_1 : ∀ t : Fin cfg0.N, win0_1.index t (0 : Fin 2) = 0 ∧ win0_1.index t (1 : Fin 2) = 0 := (by decide +kernel : ∀ t : Fin grid0.N, _)
theorem at0_2 : ∀ t : Fin cfg0.N, win0_2.index t (0 : Fin 2) = 0 ∧ win0_2.index t (1 : Fin 2) = 0 := (by decide +kernel : ∀ t : Fin grid0.N, _)
theorem at0_3 : ∀ t : Fin cfg0.N, win0_3.index t (0 : Fin 2) = 0 ∧ win0_3.index t (1 : Fin 2) = 0 := (by decide +kernel : ∀ t : Fin grid0.N, _)
theorem at0_4 : ∀ t : Fin cfg0.N, win0_4.index t (0 : Fin 2) = 0 ∧ win0_4.index t (1 : Fin 2) = 0 := (by decide +kernel : ∀ t : Fin grid0.N, _)

theorem emb0_0 (t : Fin cfg0.N) (j : S2048x1024.Idx) : ((cfg0.win 0).blk t).view.emb j = j := by
  obtain ⟨e0, e1⟩ := at0_0 t
  funext a; apply Fin.ext
  match a with
  | ⟨0, _⟩ => show win0_0.index t (0 : Fin 2) * 2048 + 1 * (j 0).val = (j 0).val; omega
  | ⟨1, _⟩ => show win0_0.index t (1 : Fin 2) * 1024 + 1 * (j 1).val = (j 1).val; omega

theorem emb0_1 (t : Fin cfg0.N) (j : S1x1024.Idx) : ((cfg0.win 1).blk t).view.emb j = j := by
  obtain ⟨e0, e1⟩ := at0_1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem emb0_2 (t : Fin cfg0.N) (j : S8x1024.Idx) : ((cfg0.win 2).blk t).view.emb j = j := by
  obtain ⟨e0, e1⟩ := at0_2 t
  funext a; apply Fin.ext
  match a with
  | ⟨0, _⟩ => show win0_2.index t (0 : Fin 2) * 8 + 1 * (j 0).val = (j 0).val; omega
  | ⟨1, _⟩ => show win0_2.index t (1 : Fin 2) * 1024 + 1 * (j 1).val = (j 1).val; omega

theorem emb0_3 (t : Fin cfg0.N) (j : S2048x1024.Idx) : ((cfg0.win 3).blk t).view.emb j = j := by
  obtain ⟨e0, e1⟩ := at0_3 t
  funext a; apply Fin.ext
  match a with
  | ⟨0, _⟩ => show win0_3.index t (0 : Fin 2) * 2048 + 1 * (j 0).val = (j 0).val; omega
  | ⟨1, _⟩ => show win0_3.index t (1 : Fin 2) * 1024 + 1 * (j 1).val = (j 1).val; omega

theorem emb0_4 (t : Fin cfg0.N) (j : S2048x8.Idx) : ((cfg0.win 4).blk t).view.emb j = j := by
  obtain ⟨e0, e1⟩ := at0_4 t
  funext a; apply Fin.ext
  match a with
  | ⟨0, _⟩ => show win0_4.index t (0 : Fin 2) * 2048 + 1 * (j 0).val = (j 0).val; omega
  | ⟨1, _⟩ => show win0_4.index t (1 : Fin 2) * 8 + 1 * (j 1).val = (j 1).val; omega

variable (V : Entry0 Ideal) (c : Dev nD)

theorem blk0_0 (t : Fin cfg0.N) : blk0 V c 0 t = V c main_arg0 := by
  funext j; show V c main_arg0 (((cfg0.win 0).blk t).view.emb j) = V c main_arg0 j; rw [emb0_0]
theorem blk0_1 (t : Fin cfg0.N) : blk0 V c 1 t = V c main_call0_v0 := by
  funext j; show V c main_call0_v0 (((cfg0.win 1).blk t).view.emb j) = V c main_call0_v0 j; rw [emb0_1]
theorem blk0_2 (t : Fin cfg0.N) : blk0 V c 2 t = V c main_arg2 := by
  funext j; show V c main_arg2 (((cfg0.win 2).blk t).view.emb j) = V c main_arg2 j; rw [emb0_2]

/-- The scaled input as an array, from the input and the scale. -/
def scaledOf (x : Vec Ideal S2048x1024 .f32) (w : Vec Ideal S1x1024 .f32) : Vec Ideal S2048x1024 .f32 :=
  fun y => hid x w (y 0) (y 1)

/-- The rows' weights as an array, from the input, the scale and the router's matrix. -/
def weightsOf (x : Vec Ideal S2048x1024 .f32) (w : Vec Ideal S1x1024 .f32) (g : Vec Ideal S8x1024 .f32) : Vec Ideal S2048x8 .f32 :=
  fun y => weights (chance (scores x w g (y 0))) (y 1)

theorem left0_3_eq (x : Vec Ideal S2048x1024 .f32) (w : Vec Ideal S1x1024 .f32) (g : Vec Ideal S8x1024 .f32) :
    left0_3 (F := Ideal) x w g = scaledOf x w := by
  unfold left0_3
  rw [View.canon_unit_zero zeros2, View.ld_unit_zero (S := S2048x1024) zeros2, View.ld_unit_zero (S := S1x1024) zeros2]
  funext y
  rw [eq_ix2 y]
  exact scaled x w (y 0) (y 1)

theorem left0_4_eq (x : Vec Ideal S2048x1024 .f32) (w : Vec Ideal S1x1024 .f32) (g : Vec Ideal S8x1024 .f32) :
    left0_4 (F := Ideal) x w g = weightsOf x w g := by
  unfold left0_4
  rw [View.canon_unit_zero zeros2, View.ld_unit_zero (S := S2048x1024) zeros2, View.ld_unit_zero (S := S1x1024) zeros2,
    View.ld_unit_zero (S := S8x1024) zeros2]
  funext y
  rw [eq_ix2 y]
  exact combined x w g (y 0) (y 1)

theorem cut0_3 (t : Fin cfg0.N) (X : Vec Ideal S2048x1024 .f32) :
    (cfg0.win 3).cut (grid0.coords t) X = ((cfg0.win 3).blk t).view.read (Elt Ideal) X := by
  funext j; show X j = X (((cfg0.win 3).blk t).view.emb j); rw [emb0_3]

theorem cut0_4 (t : Fin cfg0.N) (X : Vec Ideal S2048x8 .f32) :
    (cfg0.win 4).cut (grid0.coords t) X = ((cfg0.win 4).blk t).view.read (Elt Ideal) X := by
  funext j; show X j = X (((cfg0.win 4).blk t).view.emb j); rw [emb0_4]

/-- The router call leaves the scaled input in its first result. -/
theorem array0_3 : (dat0 V c).arrAt 3 cfg0.N = scaledOf (V c main_arg0) (V c main_call0_v0) :=
  (dat0 V c).arrAt_eq_of_cover 3 (scaledOf (V c main_arg0) (V c main_call0_v0)) (fun t _ => by
      show (cfg0.win 3).cut (grid0.coords t) ((dat0 V c).after 3 t) = _
      rw [after0_3, left0_3_eq, blk0_0, blk0_1]
      exact cut0_3 t _)
    (fun i => ⟨(⟨0, by decide⟩ : Fin cfg0.N), flush0_3 _, by
      have h := ((cfg0.win 3).blk (⟨0, by decide⟩ : Fin cfg0.N)).view.emb_mem_set i; rwa [emb0_3] at h⟩)

/-- The router call leaves the rows' weights in its second result. -/
theorem array0_4 : (dat0 V c).arrAt 4 cfg0.N = weightsOf (V c main_arg0) (V c main_call0_v0) (V c main_arg2) :=
  (dat0 V c).arrAt_eq_of_cover 4 (weightsOf (V c main_arg0) (V c main_call0_v0) (V c main_arg2)) (fun t _ => by
      show (cfg0.win 4).cut (grid0.coords t) ((dat0 V c).after 4 t) = _
      rw [after0_4, left0_4_eq, blk0_0, blk0_1, blk0_2]
      exact cut0_4 t _)
    (fun i => ⟨(⟨0, by decide⟩ : Fin cfg0.N), flush0_4 _, by
      have h := ((cfg0.win 4).blk (⟨0, by decide⟩ : Fin cfg0.N)).view.emb_mem_set i; rwa [emb0_4] at h⟩)

end Cert.KernelIdeal.Run
-- ==== Proof.Exact.Gate.lean ====
/-
  A gated unit's matrices, read at one row and one column.
-/
module

public import proofs.«01_k».proof.Proof.Exact.Formula
public import proofs.«01_k».proof.Proof.Exact.Rows

@[expose] public section

noncomputable section

namespace Cert.Gate

open Idealize.ShloMosaic Idealize.ShloMosaic.ValueIdx Cert.Formula

/-- A product with a transposed right factor, from zero. -/
theorem product {a k b : ℕ} (l : FVec Ideal ⟨2, ![a, k]⟩ .f32) (w : FVec Ideal ⟨2, ![b, k]⟩ .f32) (r : Fin a) (f : Fin b) :
    matmul (DotDims.transposedRhs a k b) none l w (constant ⟨2, ![a, b]⟩ .f32 0x00000000#32) (ix2 r f)
      = ∑ j : Fin k, l (ix2 r j) * w (ix2 f j) := by
  refine (Ideal.matmul_transposedRhs_apply none l w _ r f).trans ?_
  rw [constant_apply, Ideal.ofBits_zero_f32, zero_add]

/-- The gate over one plus the exponential of minus it, times the plain value. -/
theorem activated {s : Shape} (g u : FVec Ideal s .f32) (i : s.Idx) :
    mulf (divf g (addf (broadcast s (Scalar.ofBits (F := Ideal) .f32 0x3F800000#32))
      (exp (subf (broadcast s (Scalar.ofBits (F := Ideal) .f32 0x00000000#32)) g)))) u i = swish (g i) * u i := by
  show Ideal.div (g i) (Ideal.ofBits .f32 0x3F800000#32 + Ideal.exp (Ideal.ofBits .f32 0x00000000#32 - g i)) * u i = _
  rw [Ideal.ofBits_one_f32, Ideal.ofBits_zero_f32, zero_sub]
  rfl

/-- The whole unit: products with the gate-and-plain weights, the two halves, the activation, the product with the outgoing weights. -/
theorem unit_out {a n m : ℕ} (hm : n + n = m) (l : FVec Ideal ⟨2, ![a, 1024]⟩ .f32) (w : FVec Ideal ⟨2, ![m, 1024]⟩ .f32)
    (d : FVec Ideal ⟨2, ![1024, n]⟩ .f32)
    (h0 : (⟨2, ![a, m]⟩ : Shape).Slices ![0, 0] ⟨2, ![a, n]⟩) (h1 : (⟨2, ![a, m]⟩ : Shape).Slices ![0, n] ⟨2, ![a, n]⟩)
    (r : Fin a) (j : Fin 1024) :
    matmul (DotDims.transposedRhs a n 1024) none
      (mulf (divf (extractStridedSlice ⟨2, ![a, n]⟩ ![0, 0] (matmul (DotDims.transposedRhs a 1024 m) none l w (constant ⟨2, ![a, m]⟩ .f32 0x00000000#32)) h0)
        (addf (broadcast ⟨2, ![a, n]⟩ (Scalar.ofBits (F := Ideal) .f32 0x3F800000#32))
          (exp (subf (broadcast ⟨2, ![a, n]⟩ (Scalar.ofBits (F := Ideal) .f32 0x00000000#32))
            (extractStridedSlice ⟨2, ![a, n]⟩ ![0, 0] (matmul (DotDims.transposedRhs a 1024 m) none l w (constant ⟨2, ![a, m]⟩ .f32 0x00000000#32)) h0)))))
        (extractStridedSlice ⟨2, ![a, n]⟩ ![0, n] (matmul (DotDims.transposedRhs a 1024 m) none l w (constant ⟨2, ![a, m]⟩ .f32 0x00000000#32)) h1))
      d (constant ⟨2, ![a, 1024]⟩ .f32 0x00000000#32) (ix2 r j)
      = ffn hm (fun k => l (ix2 r k)) (fun f k => w (ix2 f k)) (fun f => d (ix2 j f)) := by
  rw [product]
  refine Finset.sum_congr rfl fun f _ => ?_
  rw [activated, slice2_axis1_apply 0 _ h0 r f ⟨f.val, by omega⟩ (Nat.zero_add _).symm, slice2_axis1_apply n _ h1 r f ⟨n + f.val, by omega⟩ rfl,
    product, product]
  rfl

end Cert.Gate
-- ==== Proof.Exact.MoeValue.lean ====
/-
  What the routed call's body adds at one expert: the expert's gated unit, times the row's weight for that expert.
-/
module

public import proofs.«01_k».proof.Proof.Gen.KernelIdeal.Skeleton
public import proofs.«01_k».proof.Proof.Exact.Gate

@[expose] public section

noncomputable section

namespace Cert.KernelIdeal.MoeValue

open Cert.KernelIdeal Cert.KernelIdeal.Gen Idealize.ShloMosaic Idealize.ShloMosaic.ValueIdx
open Cert.Formula Cert.Rows Cert.Gate

/-- One expert's share of an element: its gated unit's output times the row's weight for it. -/
def share (e : Fin 8) (h : Fin 1024 → EReal) (w : Fin 2048 → Fin 1024 → EReal) (d : Fin 1024 → EReal) (c : Fin 8 → EReal) : EReal :=
  ffn (rfl : 1024 + 1024 = 2048) h w d * c e

/-- A row's weight for expert `e`, picked out as a sum in which the other weights are left out. -/
theorem weight_of (c : FVec Ideal S512x8 .f32) (e : Fin 8) (r : Fin 512) :
    multiReduction .add [1] S512 (select (broadcastTo S512x8 (shapeCast S1x8 (cmpi .eq (iota .tc S1x8 32 [1] iota_S1x8_d1_w32)
        (broadcast S1x8 (BitVec.ofNat 32 e.val))) shapeCasts_S1x8_S1x8) broadcasts_S1x8_S512x8)
      (shapeCast S512x8 c shapeCasts_S512x8_S512x8) (broadcast S512x8 (Scalar.ofBits (F := Ideal) .f32 0x00000000#32)))
      0x00000000#32 reduces_S512x8_S512 (.inl rfl) rfl (ix1 r) = c (ix2 r e) := by
  have hzero : (Scalar.ofBits (F := Ideal) .f32 0x00000000#32 : EReal) = 0 := Ideal.ofBits_zero_f32
  refine (row_sum (a := 512) (b := 8) _ _ _ _ r).trans ?_
  rw [shapeCast_self, shapeCast_self]
  have h : ∀ k : Fin 8, select (broadcastTo S512x8 (cmpi .eq (iota .tc S1x8 32 [1] iota_S1x8_d1_w32)
        (broadcast S1x8 (BitVec.ofNat 32 e.val))) broadcasts_S1x8_S512x8) c
      (broadcast S512x8 (Scalar.ofBits (F := Ideal) .f32 0x00000000#32)) (ix2 r k) = if k = e then c (ix2 r k) else 0 := fun k => by
    have hb : broadcastTo S512x8 (cmpi .eq (iota .tc S1x8 32 [1] iota_S1x8_d1_w32) (broadcast S1x8 (BitVec.ofNat 32 e.val)))
        broadcasts_S1x8_S512x8 (ix2 r k) = BitVec.ofBool (decide (k = e)) :=
      (broadcastTo_1b_ab_apply (a := 512) (b := 8) _ _ r k).trans ((congrArg (fun z => IntOp.cmpi .eq z (BitVec.ofNat 32 e.val))
        (iota_single_apply .tc S1x8 32 1 iota_S1x8_d1_w32 (ix2 (0 : Fin 1) k))).trans (word_eq e k))
    rw [select_apply, hb, select_ofBool, broadcast_apply, hzero]
    by_cases hk : k = e <;> simp [hk]
  rw [Finset.sum_congr rfl fun k _ => h k, Finset.sum_ite_eq' Finset.univ e]
  simp

/-- What the body stores at the first expert. -/
theorem added (i : grid1.Coords) (e : Fin 8) (he : (i 1).val = e.val) (h : Vec Ideal S512x1024 .f32) (w : Vec Ideal S1x2048x1024 .f32) (d : Vec Ideal S1x1024x1024 .f32)
    (c : Vec Ideal S512x8 .f32) (r : Fin 512) (j : Fin 1024) :
    k1_pay1 (F := Ideal) i h w d c (ix2 r j)
      = share e (fun k => h (ix2 r k)) (fun f k => w (ix3 (0 : Fin 1) f k)) (fun f => d (ix3 (0 : Fin 1) j f)) (fun k => c (ix2 r k)) := by
  unfold k1_pay1
  refine congrArg₂ (fun y z : EReal => y * z) ((unit_out (a := 512) (rfl : 1024 + 1024 = 2048) _ _ _ slices_S512x2048_o0_0_S512x1024
    slices_S512x2048_o0_1024_S512x1024 r j).trans ?_) ?_
  · rw [shapeCast_self]
    refine congrArg₂ (ffn _ _) (funext fun f => funext fun k => ?_) (funext fun f => ?_)
    · exact shapeCast_1ab_ab_apply w _ f k
    · exact shapeCast_1ab_ab_apply d _ j f
  · refine (spread_column (a := 512) (b := 1024) _ _ r j).trans ((shapeCast_a_a1_apply _ _ r 0).trans ?_)
    rw [he]
    exact weight_of c e r

/-- What the body stores at a later expert: the same, added to what the buffer held. -/
theorem added_to (i : grid1.Coords) (e : Fin 8) (he : (i 1).val = e.val) (h : Vec Ideal S512x1024 .f32) (w : Vec Ideal S1x2048x1024 .f32) (d : Vec Ideal S1x1024x1024 .f32)
    (c : Vec Ideal S512x8 .f32) (z : Vec Ideal S512x1024 .f32) (r : Fin 512) (j : Fin 1024) :
    k1_pay2 (F := Ideal) i h w d c z (ix2 r j)
      = z (ix2 r j) + share e (fun k => h (ix2 r k)) (fun f k => w (ix3 (0 : Fin 1) f k)) (fun f => d (ix3 (0 : Fin 1) j f)) (fun k => c (ix2 r k)) := by
  unfold k1_pay2
  rw [addf_apply, shapeCast_self, added i e he]

end Cert.KernelIdeal.MoeValue
-- ==== Proof.Exact.MoeArrays.lean ====
/-
  What the routed call leaves in its result array: at each element, the sum over the eight experts of their shares.
-/
module

public import proofs.«01_k».proof.Proof.Exact.Moe
public import proofs.«01_k».proof.Proof.Exact.MoeValue

@[expose] public section

set_option maxRecDepth 16384

noncomputable section

namespace Cert.KernelIdeal.Run

open Cert.KernelIdeal Cert.KernelIdeal.Gen Idealize.ShloMosaic Idealize.ShloMosaic.TcCoe Idealize.ShloMosaic.ValueIdx
open Cert.Formula Cert.KernelIdeal.MoeValue
open Idealize.ShloMosaic.Pipeline (Dat Cfg Window)

theorem zero2 : (![0, 0] : Fin 2 → Nat) = fun _ => 0 := funext fun a => match a with | ⟨0, _⟩ => rfl | ⟨1, _⟩ => rfl
theorem zero3 : (![0, 0, 0] : Fin 3 → Nat) = fun _ => 0 := funext fun a => match a with | ⟨0, _⟩ => rfl | ⟨1, _⟩ => rfl | ⟨2, _⟩ => rfl

/-! Where each window's block lies: block row `t / 8` of the row arrays, expert `t % 8` of the experts' weights. -/

theorem at1_0 : ∀ t : Fin cfg1.N, win1_0.index t (0 : Fin 2) = t.val / 8 ∧ win1_0.index t (1 : Fin 2) = 0 := (by decide +kernel : ∀ t : Fin grid1.N, _)
theorem at1_1 : ∀ t : Fin cfg1.N, win1_1.index t (0 : Fin 3) = t.val % 8 ∧ win1_1.index t (1 : Fin 3) = 0 ∧ win1_1.index t (2 : Fin 3) = 0 := (by decide +kernel : ∀ t : Fin grid1.N, _)
theorem at1_2 : ∀ t : Fin cfg1.N, win1_2.index t (0 : Fin 3) = t.val % 8 ∧ win1_2.index t (1 : Fin 3) = 0 ∧ win1_2.index t (2 : Fin 3) = 0 := (by decide +kernel : ∀ t : Fin grid1.N, _)
theorem at1_3 : ∀ t : Fin cfg1.N, win1_3.index t (0 : Fin 2) = t.val / 8 ∧ win1_3.index t (1 : Fin 2) = 0 := (by decide +kernel : ∀ t : Fin grid1.N, _)
theorem at1_4 : ∀ t : Fin cfg1.N, win1_4.index t (0 : Fin 2) = t.val / 8 ∧ win1_4.index t (1 : Fin 2) = 0 := (by decide +kernel : ∀ t : Fin grid1.N, _)

theorem expertAt (t : Fin cfg1.N) : (grid1.coords t 1).val = t.val % 8 := by
  have e1 : (grid1.coords t 1).val = t.val / 1 % 8 := Pipeline.Grid.coords_val t 1 (by decide) rfl
  rw [e1, Nat.div_one]

theorem points1 (t : Fin cfg1.N) : t.val < 32 := t.isLt

/-- The row of the whole array that row `r` of block `t` is. -/
def row1 (t : Fin cfg1.N) (r : Fin 512) : Fin 2048 := ⟨t.val / 8 * 512 + r.val, by have := points1 t; have := r.isLt; omega⟩

/-- The expert grid point `t` takes. -/
def expert1 (t : Fin cfg1.N) : Fin 8 := ⟨t.val % 8, Nat.mod_lt _ (by decide)⟩

theorem emb1_0 (t : Fin cfg1.N) (r : Fin 512) (k : Fin 1024) : ((cfg1.win 0).blk t).view.emb (ix2 r k) = ix2 (row1 t r) k := by
  obtain ⟨e0, e1⟩ := at1_0 t
  funext a; apply Fin.ext
  match a with
  | ⟨0, _⟩ => show win1_0.index t (0 : Fin 2) * 512 + 1 * r.val = t.val / 8 * 512 + r.val; omega
  | ⟨1, _⟩ => show win1_0.index t (1 : Fin 2) * 1024 + 1 * k.val = k.val; omega

theorem emb1_1 (t : Fin cfg1.N) (f : Fin 2048) (k : Fin 1024) :
    ((cfg1.win 1).blk t).view.emb (ix3 (0 : Fin 1) f k) = ix3 (expert1 t) f k := by
  obtain ⟨e0, e1, e2⟩ := at1_1 t
  funext a; apply Fin.ext
  match a with
  | ⟨0, _⟩ => show win1_1.index t (0 : Fin 3) * 1 + 1 * 0 = t.val % 8; omega
  | ⟨1, _⟩ => show win1_1.index t (1 : Fin 3) * 2048 + 1 * f.val = f.val; omega
  | ⟨2, _⟩ => show win1_1.index t (2 : Fin 3) * 1024 + 1 * k.val = k.val; omega

theorem emb1_2 (t : Fin cfg1.N) (f : Fin 1024) (k : Fin 1024) :
    ((cfg1.win 2).blk t).view.emb (ix3 (0 : Fin 1) f k) = ix3 (expert1 t) f k := by
  obtain ⟨e0, e1, e2⟩ := at1_2 t
  funext a; apply Fin.ext
  match a with
  | ⟨0, _⟩ => show win1_2.index t (0 : Fin 3) * 1 + 1 * 0 = t.val % 8; omega
  | ⟨1, _⟩ => show win1_2.index t (1 : Fin 3) * 1024 + 1 * f.val = f.val; omega
  | ⟨2, _⟩ => show win1_2.index t (2 : Fin 3) * 1024 + 1 * k.val = k.val; omega

theorem emb1_3 (t : Fin cfg1.N) (r : Fin 512) (k : Fin 8) : ((cfg1.win 3).blk t).view.emb (ix2 r k) = ix2 (row1 t r) k := by
  obtain ⟨e0, e1⟩ := at1_3 t
  funext a; apply Fin.ext
  match a with
  | ⟨0, _⟩ => show win1_3.index t (0 : Fin 2) * 512 + 1 * r.val = t.val / 8 * 512 + r.val; omega
  | ⟨1, _⟩ => show win1_3.index t (1 : Fin 2) * 8 + 1 * k.val = k.val; omega

theorem emb1_4 (t : Fin cfg1.N) (r : Fin 512) (k : Fin 1024) : ((cfg1.win 4).blk t).view.emb (ix2 r k) = ix2 (row1 t r) k := by
  obtain ⟨e0, e1⟩ := at1_4 t
  funext a; apply Fin.ext
  match a with
  | ⟨0, _⟩ => show win1_4.index t (0 : Fin 2) * 512 + 1 * r.val = t.val / 8 * 512 + r.val; omega
  | ⟨1, _⟩ => show win1_4.index t (1 : Fin 2) * 1024 + 1 * k.val = k.val; omega

/-- Expert `e`'s share of element `(R, j)`, from the whole arrays. -/
def shareOf (h : Vec Ideal S2048x1024 .f32) (w : Vec Ideal S8x2048x1024 .f32) (d : Vec Ideal S8x1024x1024 .f32) (p : Vec Ideal S2048x8 .f32)
    (R : Fin 2048) (j : Fin 1024) (e : Fin 8) : EReal :=
  share e (fun k => h (ix2 R k)) (fun f k => w (ix3 e f k)) (fun f => d (ix3 e j f)) (fun k => p (ix2 R k))

/-- The routed part as an array: at each element, the sum of the experts' shares. -/
def routedOf (h : Vec Ideal S2048x1024 .f32) (w : Vec Ideal S8x2048x1024 .f32) (d : Vec Ideal S8x1024x1024 .f32) (p : Vec Ideal S2048x8 .f32) :
    Vec Ideal S2048x1024 .f32 := fun y => ∑ e : Fin 8, shareOf h w d p (y 0) (y 1) e

theorem first1_eq (i : grid1.Coords) (x0 : Vec Ideal S512x1024 .f32) (x1 : Vec Ideal S1x2048x1024 .f32) (x2 : Vec Ideal S1x1024x1024 .f32)
    (x3 : Vec Ideal S512x8 .f32) : first1 (F := Ideal) i x0 x1 x2 x3 = k1_pay1 (F := Ideal) i x0 x1 x2 x3 := by
  unfold first1
  rw [View.canon_unit_zero zero2, View.ld_unit_zero (S := S512x1024) zero2, View.ld_unit_zero (S := S1x2048x1024) zero3,
    View.ld_unit_zero (S := S1x1024x1024) zero3, View.ld_unit_zero (S := S512x8) zero2]

theorem next1_eq (i : grid1.Coords) (x0 : Vec Ideal S512x1024 .f32) (x1 : Vec Ideal S1x2048x1024 .f32) (x2 : Vec Ideal S1x1024x1024 .f32)
    (x3 : Vec Ideal S512x8 .f32) (z : Vec Ideal S512x1024 .f32) : next1 (F := Ideal) i x0 x1 x2 x3 z = k1_pay2 (F := Ideal) i x0 x1 x2 x3 z := by
  unfold next1
  rw [View.canon_unit_zero zero2, View.ld_unit_zero (S := S512x1024) zero2, View.ld_unit_zero (S := S1x2048x1024) zero3,
    View.ld_unit_zero (S := S1x1024x1024) zero3, View.ld_unit_zero (S := S512x8) zero2, View.ld_unit_zero (S := S512x1024) zero2]

variable (V : Entry1 Ideal) (c : Dev nD)

/-- Expert `e`'s share of element `(R, j)`, from the arrays the call finds. -/
abbrev sh1 (R : Fin 2048) (j : Fin 1024) (e : Fin 8) : EReal :=
  shareOf (V c main_call0_v1_0) (V c main_arg3) (V c main_arg4) (V c main_call0_v1_1) R j e

theorem share1 (t : Fin cfg1.N) (r : Fin 512) (j : Fin 1024) :
    share (expert1 t) (fun k => blk1 V c 0 t (ix2 r k)) (fun f k => blk1 V c 1 t (ix3 (0 : Fin 1) f k))
      (fun f => blk1 V c 2 t (ix3 (0 : Fin 1) j f)) (fun k => blk1 V c 3 t (ix2 r k)) = sh1 V c (row1 t r) j (expert1 t) := by
  have h0 : (fun k : Fin 1024 => blk1 V c 0 t (ix2 r k)) = fun k => V c main_call0_v1_0 (ix2 (row1 t r) k) := by
    funext k; show V c main_call0_v1_0 (((cfg1.win 0).blk t).view.emb (ix2 r k)) = _; rw [emb1_0]
  have h1 : (fun (f : Fin 2048) (k : Fin 1024) => blk1 V c 1 t (ix3 (0 : Fin 1) f k)) = fun f k => V c main_arg3 (ix3 (expert1 t) f k) := by
    funext f k; show V c main_arg3 (((cfg1.win 1).blk t).view.emb (ix3 (0 : Fin 1) f k)) = _; rw [emb1_1]
  have h2 : (fun f : Fin 1024 => blk1 V c 2 t (ix3 (0 : Fin 1) j f)) = fun f => V c main_arg4 (ix3 (expert1 t) j f) := by
    funext f; show V c main_arg4 (((cfg1.win 2).blk t).view.emb (ix3 (0 : Fin 1) j f)) = _; rw [emb1_2]
  have h3 : (fun k : Fin 8 => blk1 V c 3 t (ix2 r k)) = fun k => V c main_call0_v1_1 (ix2 (row1 t r) k) := by
    funext k; show V c main_call0_v1_1 (((cfg1.win 3).blk t).view.emb (ix2 r k)) = _; rw [emb1_3]
  rw [h0, h1, h2, h3]
  rfl

/-- The same share by the expert's number, zero past the last. -/
def shn (R : Fin 2048) (j : Fin 1024) (e : ℕ) : EReal := if h : e < 8 then sh1 V c R j ⟨e, h⟩ else 0

theorem shn_of (R : Fin 2048) (j : Fin 1024) (t : Fin cfg1.N) : shn V c R j (t.val % 8) = sh1 V c R j (expert1 t) :=
  dif_pos (Nat.mod_lt _ (by decide))

/-- After a point, the buffer holds the sum of the shares of the experts so far. -/
theorem acc1_eq (b : Fin 4) (r : Fin 512) (j : Fin 1024) : ∀ (e : ℕ) (he : e < 8) (hn : 8 * b.val + e < cfg1.N),
    acc1 V c (8 * b.val + e) hn (ix2 r j)
      = ∑ k ∈ Finset.range (e + 1), shn V c ⟨b.val * 512 + r.val, by have := b.isLt; have := r.isLt; omega⟩ j k
  | 0, he, hn => by
    have ht : (8 * b.val + 0) % 8 = 0 := by omega
    have hrow : row1 ⟨8 * b.val + 0, hn⟩ r = ⟨b.val * 512 + r.val, by have := b.isLt; have := r.isLt; omega⟩ := Fin.ext (by
      show (8 * b.val + 0) / 8 * 512 + r.val = b.val * 512 + r.val; omega)
    have hf := acc1_first V c ⟨8 * b.val + 0, hn⟩ ht
    have hs := shn_of V c (row1 ⟨8 * b.val + 0, hn⟩ r) j ⟨8 * b.val + 0, hn⟩
    rw [hrow] at hs
    rw [show (⟨8 * b.val + 0, hn⟩ : Fin cfg1.N).val % 8 = 0 from ht] at hs
    refine (congrFun hf (ix2 r j)).trans ?_
    rw [first1_eq, added _ (expert1 ⟨8 * b.val + 0, hn⟩) (expertAt _), share1, hrow, Finset.sum_range_one, hs]
  | e + 1, he, hn => by
    have ht : (8 * b.val + (e + 1)) % 8 = e + 1 := by omega
    have hrow : row1 ⟨8 * b.val + (e + 1), hn⟩ r = ⟨b.val * 512 + r.val, by have := b.isLt; have := r.isLt; omega⟩ := Fin.ext (by
      show (8 * b.val + (e + 1)) / 8 * 512 + r.val = b.val * 512 + r.val; omega)
    have hf := acc1_next V c ⟨8 * b.val + (e + 1), hn⟩ (by show ¬ (8 * b.val + (e + 1)) % 8 = 0; omega)
    have hs := shn_of V c (row1 ⟨8 * b.val + (e + 1), hn⟩ r) j ⟨8 * b.val + (e + 1), hn⟩
    rw [hrow] at hs
    rw [show (⟨8 * b.val + (e + 1), hn⟩ : Fin cfg1.N).val % 8 = e + 1 from ht] at hs
    refine (congrFun hf (ix2 r j)).trans ?_
    rw [next1_eq, added_to _ (expert1 ⟨8 * b.val + (e + 1), hn⟩) (expertAt _), share1, hrow, Finset.sum_range_succ, hs]
    exact congrArg (fun z : EReal => z + _) (acc1_eq b r j e (by omega) (by omega))

theorem cut1_4 (t : Fin cfg1.N) (X : Vec Ideal S512x1024 .f32) (G : Vec Ideal S2048x1024 .f32)
    (h : ∀ r k, X (ix2 r k) = G (ix2 (row1 t r) k)) :
    (cfg1.win 4).cut (grid1.coords t) X = ((cfg1.win 4).blk t).view.read (Elt Ideal) G := by
  funext y
  have hy : y = ix2 (y 0) (y 1) := eq_ix2 (n0 := 512) (n1 := 1024) y
  rw [hy]
  show X (ix2 (y 0) (y 1)) = G (((cfg1.win 4).blk t).view.emb (ix2 (y 0) (y 1)))
  exact (h (y 0) (y 1)).trans (congrArg G (emb1_4 t (y 0) (y 1)).symm)

/-- Every element of the result lies in a block that is written back. -/
theorem covered1 (i : S2048x1024.Idx) : ∃ t : Fin cfg1.N, (cfg1.win 4).flush t = true ∧ i ∈ ((cfg1.win 4).blk t).view.set := by
  have hi0 : (i 0).val < 2048 := (i 0).isLt
  have ht : (i 0).val / 512 * 8 + 7 < 32 := by omega
  have e : ((cfg1.win 4).blk (⟨(i 0).val / 512 * 8 + 7, ht⟩ : Fin cfg1.N)).view.emb (ix2 (⟨(i 0).val % 512, Nat.mod_lt _ (by decide)⟩ : Fin 512) (i 1)) = i :=
    (emb1_4 (⟨(i 0).val / 512 * 8 + 7, ht⟩ : Fin cfg1.N) (⟨(i 0).val % 512, Nat.mod_lt _ (by decide)⟩ : Fin 512) (i 1)).trans (funext fun a => Fin.ext (by
      match a with
      | ⟨0, _⟩ => show ((i 0).val / 512 * 8 + 7) / 8 * 512 + (i 0).val % 512 = (i 0).val; omega
      | ⟨1, _⟩ => rfl))
  have h := ((cfg1.win 4).blk (⟨(i 0).val / 512 * 8 + 7, ht⟩ : Fin cfg1.N)).view.emb_mem_set (ix2 (⟨(i 0).val % 512, Nat.mod_lt _ (by decide)⟩ : Fin 512) (i 1))
  exact ⟨⟨(i 0).val / 512 * 8 + 7, ht⟩, (flush1_4 _).mpr (by show ((i 0).val / 512 * 8 + 7) % 8 = 7; omega), by rwa [e] at h⟩

/-- The routed call leaves the routed part in its result. -/
theorem array1_4 : (dat1 V c).arrAt 4 cfg1.N
    = routedOf (V c main_call0_v1_0) (V c main_arg3) (V c main_arg4) (V c main_call0_v1_1) :=
  (dat1 V c).arrAt_eq_of_cover 4 (routedOf (V c main_call0_v1_0) (V c main_arg3) (V c main_arg4) (V c main_call0_v1_1)) (fun t hf => by
      show (cfg1.win 4).cut (grid1.coords t) ((dat1 V c).after 4 t) = _
      rw [after1_4]
      refine cut1_4 t _ _ fun r k => ?_
      have h7 : t.val % 8 = 7 := (flush1_4 t).mp hf
      have h32 := points1 t
      obtain ⟨n, hn⟩ := t
      obtain ⟨b, rfl⟩ : ∃ b : Fin 4, n = 8 * b.val + 7 := ⟨⟨n / 8, by simp only at h32; omega⟩, by simp only at h7 ⊢; omega⟩
      refine (acc1_eq V c b r k 7 (by omega) hn).trans ?_
      rw [Finset.sum_range]
      have hrow : row1 ⟨8 * b.val + 7, hn⟩ r = ⟨b.val * 512 + r.val, by have := b.isLt; have := r.isLt; omega⟩ := Fin.ext (by
        show (8 * b.val + 7) / 8 * 512 + r.val = b.val * 512 + r.val; omega)
      rw [hrow]
      exact Finset.sum_congr rfl fun e _ => dif_pos e.isLt)
    covered1

end Cert.KernelIdeal.Run
-- ==== Proof.Exact.SharedValue.lean ====
/-
  What the shared call's body stores: the input, plus the routed part, plus the shared gated unit.
-/
module

public import proofs.«01_k».proof.Proof.Gen.KernelIdeal.Skeleton
public import proofs.«01_k».proof.Proof.Exact.Gate

@[expose] public section

noncomputable section

namespace Cert.KernelIdeal.SharedValue

open Cert.KernelIdeal Cert.KernelIdeal.Gen Idealize.ShloMosaic Idealize.ShloMosaic.ValueIdx
open Cert.Formula Cert.Rows Cert.Gate

/-- One element of the block the body stores. -/
theorem stored (h : Vec Ideal S256x1024 .f32) (w : Vec Ideal S4096x1024 .f32) (d : Vec Ideal S1024x2048 .f32) (x m : Vec Ideal S256x1024 .f32)
    (r : Fin 256) (j : Fin 1024) :
    k2_pay1 (F := Ideal) h w d x m (ix2 r j)
      = x (ix2 r j) + m (ix2 r j)
        + ffn (rfl : 2048 + 2048 = 4096) (fun k => h (ix2 r k)) (fun f k => w (ix2 f k)) (fun f => d (ix2 j f)) := by
  unfold k2_pay1
  rw [shapeCast_self, shapeCast_self]
  exact congrArg (fun z : EReal => x (ix2 r j) + m (ix2 r j) + z) (unit_out (a := 256) (rfl : 2048 + 2048 = 4096) h w d
    slices_S256x4096_o0_0_S256x2048 slices_S256x4096_o0_2048_S256x2048 r j)

end Cert.KernelIdeal.SharedValue
-- ==== Proof.Exact.SharedArrays.lean ====
/-
  What the shared call leaves in its result array: the input, plus the routed part, plus the shared gated unit.
-/
module

public import proofs.«01_k».proof.Proof.Exact.Shared
public import proofs.«01_k».proof.Proof.Exact.SharedValue

@[expose] public section

set_option maxRecDepth 16384

noncomputable section

namespace Cert.KernelIdeal.Run

open Cert.KernelIdeal Cert.KernelIdeal.Gen Idealize.ShloMosaic Idealize.ShloMosaic.TcCoe Idealize.ShloMosaic.ValueIdx
open Cert.Formula Cert.KernelIdeal.SharedValue
open Idealize.ShloMosaic.Pipeline (Dat Cfg Window)

theorem none2 : (![0, 0] : Fin 2 → Nat) = fun _ => 0 := funext fun a => match a with | ⟨0, _⟩ => rfl | ⟨1, _⟩ => rfl

/-! Where each window's block lies: block row `t` of the row arrays, the whole of the weights. -/

theorem at2_0 : ∀ t : Fin cfg2.N, win2_0.index t (0 : Fin 2) = t.val ∧ win2_0.index t (1 : Fin 2) = 0 := (by decide +kernel : ∀ t : Fin grid2.N, _)
theorem at2_1 : ∀ t : Fin cfg2.N, win2_1.index t (0 : Fin 2) = t.val ∧ win2_1.index t (1 : Fin 2) = 0 := (by decide +kernel : ∀ t : Fin grid2.N, _)
theorem at2_2 : ∀ t : Fin cfg2.N, win2_2.index t (0 : Fin 2) = t.val ∧ win2_2.index t (1 : Fin 2) = 0 := (by decide +kernel : ∀ t : Fin grid2.N, _)
theorem at2_3 : ∀ t : Fin cfg2.N, win2_3.index t (0 : Fin 2) = 0 ∧ win2_3.index t (1 : Fin 2) = 0 := (by decide +kernel : ∀ t : Fin grid2.N, _)
theorem at2_4 : ∀ t : Fin cfg2.N, win2_4.index t (0 : Fin 2) = 0 ∧ win2_4.index t (1 : Fin 2) = 0 := (by decide +kernel : ∀ t : Fin grid2.N, _)
theorem at2_5 : ∀ t : Fin cfg2.N, win2_5.index t (0 : Fin 2) = t.val ∧ win2_5.index t (1 : Fin 2) = 0 := (by decide +kernel : ∀ t : Fin grid2.N, _)

theorem points2 (t : Fin cfg2.N) : t.val < 8 := t.isLt

/-- The row of the whole array that row `r` of block `t` is. -/
def row2 (t : Fin cfg2.N) (r : Fin 256) : Fin 2048 := ⟨t.val * 256 + r.val, by have := points2 t; have := r.isLt; omega⟩

theorem emb2_0 (t : Fin cfg2.N) (r : Fin 256) (k : Fin 1024) : ((cfg2.win 0).blk t).view.emb (ix2 r k) = ix2 (row2 t r) k := by
  obtain ⟨e0, e1⟩ := at2_0 t
  funext a; apply Fin.ext
  match a with
  | ⟨0, _⟩ => show win2_0.index t (0 : Fin 2) * 256 + 1 * r.val = t.val * 256 + r.val; omega
  | ⟨1, _⟩ => show win2_0.index t (1 : Fin 2) * 1024 + 1 * k.val = k.val; omega

theorem emb2_1 (t : Fin cfg2.N) (r : Fin 256) (k : Fin 1024) : ((cfg2.win 1).blk t).view.emb (ix2 r k) = ix2 (row2 t r) k := by
  obtain ⟨e0, e1⟩ := at2_1 t
  funext a; apply Fin.ext
  match a with
  | ⟨0, _⟩ => show win2_1.index t (0 : Fin 2) * 256 + 1 * r.val = t.val * 256 + r.val; omega
  | ⟨1, _⟩ => show win2_1.index t (1 : Fin 2) * 1024 + 1 * k.val = k.val; omega

theorem emb2_2 (t : Fin cfg2.N) (r : Fin 256) (k : Fin 1024) : ((cfg2.win 2).blk t).view.emb (ix2 r k) = ix2 (row2 t r) k := by
  obtain ⟨e0, e1⟩ := at2_2 t
  funext a; apply Fin.ext
  match a with
  | ⟨0, _⟩ => show win2_2.index t (0 : Fin 2) * 256 + 1 * r.val = t.val * 256 + r.val; omega
  | ⟨1, _⟩ => show win2_2.index t (1 : Fin 2) * 1024 + 1 * k.val = k.val; omega

theorem emb2_3 (t : Fin cfg2.N) (j : S4096x1024.Idx) : ((cfg2.win 3).blk t).view.emb j = j := by
  obtain ⟨e0, e1⟩ := at2_3 t
  funext a; apply Fin.ext
  match a with
  | ⟨0, _⟩ => show win2_3.index t (0 : Fin 2) * 4096 + 1 * (j 0).val = (j 0).val; omega
  | ⟨1, _⟩ => show win2_3.index t (1 : Fin 2) * 1024 + 1 * (j 1).val = (j 1).val; omega

theorem emb2_4 (t : Fin cfg2.N) (j : S1024x2048.Idx) : ((cfg2.win 4).blk t).view.emb j = j := by
  obtain ⟨e0, e1⟩ := at2_4 t
  funext a; apply Fin.ext
  match a with
  | ⟨0, _⟩ => show win2_4.index t (0 : Fin 2) * 1024 + 1 * (j 0).val = (j 0).val; omega
  | ⟨1, _⟩ => show win2_4.index t (1 : Fin 2) * 2048 + 1 * (j 1).val = (j 1).val; omega

theorem emb2_5 (t : Fin cfg2.N) (r : Fin 256) (k : Fin 1024) : ((cfg2.win 5).blk t).view.emb (ix2 r k) = ix2 (row2 t r) k := by
  obtain ⟨e0, e1⟩ := at2_5 t
  funext a; apply Fin.ext
  match a with
  | ⟨0, _⟩ => show win2_5.index t (0 : Fin 2) * 256 + 1 * r.val = t.val * 256 + r.val; omega
  | ⟨1, _⟩ => show win2_5.index t (1 : Fin 2) * 1024 + 1 * k.val = k.val; omega

/-- The result as an array, from the input, the scaled input, the routed part and the shared unit's weights. -/
def totalOf (x h m : Vec Ideal S2048x1024 .f32) (w : Vec Ideal S4096x1024 .f32) (d : Vec Ideal S1024x2048 .f32) : Vec Ideal S2048x1024 .f32 :=
  fun y => x (ix2 (y 0) (y 1)) + m (ix2 (y 0) (y 1))
    + ffn (rfl : 2048 + 2048 = 4096) (fun k => h (ix2 (y 0) k)) (fun f k => w (ix2 f k)) (fun f => d (ix2 (y 1) f))

theorem left2_5_eq (x0 x1 x2 : Vec Ideal S256x1024 .f32) (x3 : Vec Ideal S4096x1024 .f32) (x4 : Vec Ideal S1024x2048 .f32) :
    left2_5 (F := Ideal) x0 x1 x2 x3 x4 = k2_pay1 (F := Ideal) x1 x3 x4 x0 x2 := by
  unfold left2_5
  rw [View.canon_unit_zero none2, View.ld_unit_zero (S := S256x1024) none2, View.ld_unit_zero (S := S256x1024) none2,
    View.ld_unit_zero (S := S256x1024) none2, View.ld_unit_zero (S := S4096x1024) none2, View.ld_unit_zero (S := S1024x2048) none2]

variable (V : Entry2 Ideal) (c : Dev nD)

theorem blk2_0 (t : Fin cfg2.N) (r : Fin 256) (k : Fin 1024) : blk2 V c 0 t (ix2 r k) = V c main_arg0 (ix2 (row2 t r) k) := by
  show V c main_arg0 (((cfg2.win 0).blk t).view.emb (ix2 r k)) = _; rw [emb2_0]
theorem blk2_1 (t : Fin cfg2.N) (r : Fin 256) (k : Fin 1024) : blk2 V c 1 t (ix2 r k) = V c main_call0_v1_0 (ix2 (row2 t r) k) := by
  show V c main_call0_v1_0 (((cfg2.win 1).blk t).view.emb (ix2 r k)) = _; rw [emb2_1]
theorem blk2_2 (t : Fin cfg2.N) (r : Fin 256) (k : Fin 1024) : blk2 V c 2 t (ix2 r k) = V c main_call0_v2 (ix2 (row2 t r) k) := by
  show V c main_call0_v2 (((cfg2.win 2).blk t).view.emb (ix2 r k)) = _; rw [emb2_2]
theorem blk2_3 (t : Fin cfg2.N) : blk2 V c 3 t = V c main_arg5 := by
  funext j; show V c main_arg5 (((cfg2.win 3).blk t).view.emb j) = V c main_arg5 j; rw [emb2_3]
theorem blk2_4 (t : Fin cfg2.N) : blk2 V c 4 t = V c main_arg6 := by
  funext j; show V c main_arg6 (((cfg2.win 4).blk t).view.emb j) = V c main_arg6 j; rw [emb2_4]

theorem cut2_5 (t : Fin cfg2.N) (X : Vec Ideal S256x1024 .f32) (G : Vec Ideal S2048x1024 .f32)
    (h : ∀ r k, X (ix2 r k) = G (ix2 (row2 t r) k)) :
    (cfg2.win 5).cut (grid2.coords t) X = ((cfg2.win 5).blk t).view.read (Elt Ideal) G := by
  funext y
  have hy : y = ix2 (y 0) (y 1) := eq_ix2 (n0 := 256) (n1 := 1024) y
  rw [hy]
  show X (ix2 (y 0) (y 1)) = G (((cfg2.win 5).blk t).view.emb (ix2 (y 0) (y 1)))
  exact (h (y 0) (y 1)).trans (congrArg G (emb2_5 t (y 0) (y 1)).symm)

/-- Every element of the result lies in a block that is written back. -/
theorem covered2 (i : S2048x1024.Idx) : ∃ t : Fin cfg2.N, (cfg2.win 5).flush t = true ∧ i ∈ ((cfg2.win 5).blk t).view.set := by
  have hi0 : (i 0).val < 2048 := (i 0).isLt
  have ht : (i 0).val / 256 < 8 := by omega
  have e : ((cfg2.win 5).blk (⟨(i 0).val / 256, ht⟩ : Fin cfg2.N)).view.emb (ix2 (⟨(i 0).val % 256, Nat.mod_lt _ (by decide)⟩ : Fin 256) (i 1)) = i :=
    (emb2_5 (⟨(i 0).val / 256, ht⟩ : Fin cfg2.N) (⟨(i 0).val % 256, Nat.mod_lt _ (by decide)⟩ : Fin 256) (i 1)).trans (funext fun a => Fin.ext (by
      match a with
      | ⟨0, _⟩ => show (i 0).val / 256 * 256 + (i 0).val % 256 = (i 0).val; omega
      | ⟨1, _⟩ => rfl))
  have h := ((cfg2.win 5).blk (⟨(i 0).val / 256, ht⟩ : Fin cfg2.N)).view.emb_mem_set (ix2 (⟨(i 0).val % 256, Nat.mod_lt _ (by decide)⟩ : Fin 256) (i 1))
  exact ⟨⟨(i 0).val / 256, ht⟩, flush2_5 _, by rwa [e] at h⟩

/-- The shared call leaves the total in its result. -/
theorem array2_5 : (dat2 V c).arrAt 5 cfg2.N
    = totalOf (V c main_arg0) (V c main_call0_v1_0) (V c main_call0_v2) (V c main_arg5) (V c main_arg6) :=
  (dat2 V c).arrAt_eq_of_cover 5 (totalOf (V c main_arg0) (V c main_call0_v1_0) (V c main_call0_v2) (V c main_arg5) (V c main_arg6)) (fun t _ => by
      show (cfg2.win 5).cut (grid2.coords t) ((dat2 V c).after 5 t) = _
      rw [after2_5, left2_5_eq]
      refine cut2_5 t _ _ fun r k => ?_
      refine (stored _ _ _ _ _ r k).trans ?_
      rw [blk2_0, blk2_2, blk2_3, blk2_4, show (fun k : Fin 1024 => blk2 V c 1 t (ix2 r k)) = fun k => V c main_call0_v1_0 (ix2 (row2 t r) k) from
        funext fun k => blk2_1 V c t r k]
      rfl)
    covered2

end Cert.KernelIdeal.Run
-- ==== Proof.Exact.Result.lean ====
/-
  The kernel's result as a function of its seven arguments.
-/
module

public import proofs.«01_k».proof.Proof.Exact.Run
public import proofs.«01_k».proof.Proof.Exact.RouterArrays
public import proofs.«01_k».proof.Proof.Exact.MoeArrays
public import proofs.«01_k».proof.Proof.Exact.SharedArrays

@[expose] public section

set_option maxRecDepth 16384

noncomputable section

namespace Cert.KernelIdeal.Run

open Cert.KernelIdeal Cert.KernelIdeal.Gen Idealize.ShloMosaic Idealize.ShloMosaic.TcCoe Idealize.ShloMosaic.ValueIdx
open Cert.Formula Cert.KernelIdeal.RouterValue Cert.KernelIdeal.MoeValue

/-- A scale of 1024 numbers, laid out as one row. -/
def rowOf (w : Vec Ideal S1024 .f32) : Vec Ideal S1x1024 .f32 := shapeCast S1x1024 w shapeCasts_S1024_S1x1024

/-- The kernel's result from its seven arguments. -/
def resultOf (x : Vec Ideal S2048x1024 .f32) (w : Vec Ideal S1024 .f32) (g : Vec Ideal S8x1024 .f32) (wg : Vec Ideal S8x2048x1024 .f32)
    (wd : Vec Ideal S8x1024x1024 .f32) (sg : Vec Ideal S4096x1024 .f32) (sd : Vec Ideal S1024x2048 .f32) : Vec Ideal S2048x1024 .f32 :=
  totalOf x (scaledOf x (rowOf w)) (routedOf (scaledOf x (rowOf w)) wg wd (weightsOf x (rowOf w) g)) sg sd

variable (m : (ℓ : Loc nD τ sig) → Buf (Elt Ideal) ℓ) (c : Dev nD)

theorem in0_scale : in0 m c main_call0_v0 = rowOf (m ((c : Thread nD τ).loc main_arg1)) := by
  show StableHlo.after hostOps0 (fun b => m (c, b)) (Proc.devRef .tc main_call0_v0) = _
  unfold hostOps0
  after_results
  rfl

theorem in0_arg0 : in0 m c main_arg0 = m ((c : Thread nD τ).loc main_arg0) := at1_inputs m c main_arg0 (by decide)
theorem in0_arg2 : in0 m c main_arg2 = m ((c : Thread nD τ).loc main_arg2) := at1_inputs m c main_arg2 (by decide)

/-- What the first call leaves, as the second finds it. -/
theorem in1_scaled : in1 m c main_call0_v1_0 = scaledOf (m ((c : Thread nD τ).loc main_arg0)) (rowOf (m ((c : Thread nD τ).loc main_arg1))) := by
  refine (at2_array m c 3).trans ((array0_3 (in0 m) c).trans ?_)
  rw [in0_scale, in0_arg0]

theorem in1_weights : in1 m c main_call0_v1_1 = weightsOf (m ((c : Thread nD τ).loc main_arg0)) (rowOf (m ((c : Thread nD τ).loc main_arg1)))
    (m ((c : Thread nD τ).loc main_arg2)) := by
  refine (at2_array m c 4).trans ((array0_4 (in0 m) c).trans ?_)
  rw [in0_scale, in0_arg0, in0_arg2]

theorem in1_arg3 : in1 m c main_arg3 = m ((c : Thread nD τ).loc main_arg3) := at2_inputs m c main_arg3 (by decide)
theorem in1_arg4 : in1 m c main_arg4 = m ((c : Thread nD τ).loc main_arg4) := at2_inputs m c main_arg4 (by decide)

/-- What the first two calls leave, as the third finds it. -/
theorem in2_scaled : in2 m c main_call0_v1_0 = scaledOf (m ((c : Thread nD τ).loc main_arg0)) (rowOf (m ((c : Thread nD τ).loc main_arg1))) :=
  (at3_keeps m c main_call0_v1_0 (by decide +kernel)).trans (in1_scaled m c)

theorem in2_routed : in2 m c main_call0_v2 = routedOf
    (scaledOf (m ((c : Thread nD τ).loc main_arg0)) (rowOf (m ((c : Thread nD τ).loc main_arg1))))
    (m ((c : Thread nD τ).loc main_arg3)) (m ((c : Thread nD τ).loc main_arg4))
    (weightsOf (m ((c : Thread nD τ).loc main_arg0)) (rowOf (m ((c : Thread nD τ).loc main_arg1))) (m ((c : Thread nD τ).loc main_arg2))) := by
  refine (at3_array m c 4).trans ((array1_4 (in1 m) c).trans ?_)
  rw [in1_scaled, in1_weights, in1_arg3, in1_arg4]

theorem in2_arg0 : in2 m c main_arg0 = m ((c : Thread nD τ).loc main_arg0) := at3_inputs m c main_arg0 (by decide)
theorem in2_arg5 : in2 m c main_arg5 = m ((c : Thread nD τ).loc main_arg5) := at3_inputs m c main_arg5 (by decide)
theorem in2_arg6 : in2 m c main_arg6 = m ((c : Thread nD τ).loc main_arg6) := at3_inputs m c main_arg6 (by decide)

/-- The third call leaves the result's function of the arguments. -/
theorem result_eq : (dat2 (in2 m) c).arrAt 5 cfg2.N = resultOf (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) := by
  refine (array2_5 (in2 m) c).trans ?_
  rw [in2_arg0, in2_scaled, in2_routed, in2_arg5, in2_arg6]
  rfl

end Cert.KernelIdeal.Run
-- ==== Proof.Ref.Index.lean ====
/-
  Indices of vectors, matrices and stacks of matrices told apart by their coordinates.
-/
module

public import Idealize.ShloMosaic.Lib.ValueIdx

@[expose] public section

namespace Cert.Index

open Idealize.ShloMosaic Idealize.ShloMosaic.ValueIdx

/-- A vector's index is known by its coordinate. -/
theorem at1 {a : ℕ} (i : (⟨1, ![a]⟩ : Shape).Idx) (p : Fin a) (h0 : (i 0).val = p.val) : i = ix1 p :=
  funext fun d => Fin.ext (match d with | ⟨0, _⟩ => h0)

/-- A matrix's index is known by its two coordinates. -/
theorem at2 {a b : ℕ} (i : (⟨2, ![a, b]⟩ : Shape).Idx) (p : Fin a) (q : Fin b) (h0 : (i 0).val = p.val) (h1 : (i 1).val = q.val) :
    i = ix2 p q :=
  funext fun d => Fin.ext (match d with | ⟨0, _⟩ => h0 | ⟨1, _⟩ => h1)

/-- A stack's index is known by its three coordinates. -/
theorem at3 {a b c : ℕ} (i : (⟨3, ![a, b, c]⟩ : Shape).Idx) (p : Fin a) (q : Fin b) (r : Fin c) (h0 : (i 0).val = p.val)
    (h1 : (i 1).val = q.val) (h2 : (i 2).val = r.val) : i = ix3 p q r :=
  funext fun d => Fin.ext (match d with | ⟨0, _⟩ => h0 | ⟨1, _⟩ => h1 | ⟨2, _⟩ => h2)

end Cert.Index
-- ==== Proof.Ref.Router.lean ====
/-
  The reference's first half read at an index: the scaled rows, their scores against the gate rows, and the softmax of the
  scores.
-/
module

public import proofs.«01_k».proof.Proof.Gen.ReferenceIdeal.Read
public import proofs.«01_k».proof.Proof.Ref.Index
public import proofs.«01_k».proof.Proof.Exact.Formula
public import proofs.«01_k».proof.Proof.Exact.Rows
public import Idealize.ShloMosaic.Lib.KernelVsHost

@[expose] public section

noncomputable section

namespace Cert.ReferenceIdeal.Parts

open Cert.ReferenceIdeal Cert.ReferenceIdeal.Gen Cert.ReferenceIdeal.Read Idealize.ShloMosaic Idealize.ShloMosaic.ValueIdx
open Cert.Formula Cert.Rows Cert.Index

variable (x : FVec Ideal S2048x1024 .f32) (w : FVec Ideal S1024 .f32) (g : FVec Ideal S8x1024 .f32)

/-- Row `r` of the input, scaled. -/
def row (r : Fin 2048) : Fin 1024 → EReal := unit (fun k => x (ix2 r k)) (fun k => w (ix1 k))

/-- The sum of a row's squares. -/
theorem squares (r : Fin 2048) : val_main_v1 (F := Ideal) x (ix1 r) = ∑ k : Fin 1024, x (ix2 r k) * x (ix2 r k) := by
  refine (val_main_v1_apply x (ix1 r)).trans ((congrArg₂ (fun y z : EReal => y + z) Ideal.ofBits_zero_f32
    (Finset.sum_congr rfl fun k _ => ?_)).trans (zero_add _))
  exact congrArg (fun i => x i * x i) (at2 (idx_main_v1 (ix1 r) k) r k rfl rfl)

/-- The reciprocal root of a row's mean square. -/
theorem root (r : Fin 2048) : val_main_v7 (F := Ideal) x (ix2 r (0 : Fin 1))
    = Ideal.rsqrt (Ideal.div (∑ k : Fin 1024, x (ix2 r k) * x (ix2 r k)) (Ideal.ofBits .f32 0x44800000#32) + Ideal.ofBits .f32 0x358637BD#32) := by
  have h2 : val_main_v2 (F := Ideal) x (ix2 r (0 : Fin 1)) = ∑ k : Fin 1024, x (ix2 r k) * x (ix2 r k) :=
    (val_main_v2_apply (F := Ideal) x (ix2 r (0 : Fin 1))).trans ((congrArg (val_main_v1 (F := Ideal) x) (at1 (idx_main_v2 (ix2 r (0 : Fin 1))) r rfl)).trans (squares x r))
  exact congrArg Ideal.rsqrt (congrArg₂ (fun y z : EReal => y + z)
    (congrArg₂ Ideal.div h2 (val_main_v3_apply (F := Ideal) (ix2 r (0 : Fin 1)))) (val_main_v5_apply (F := Ideal) (ix2 r (0 : Fin 1))))

/-- The scaled input. -/
theorem scaled_row (r : Fin 2048) (j : Fin 1024) : val_main_v12 (F := Ideal) x w (ix2 r j) = row x w r j := by
  have h8 := (val_main_v8_apply (F := Ideal) x (ix2 r j)).trans
    ((congrArg (val_main_v7 (F := Ideal) x) (at2 (idx_main_v8 (ix2 r j)) r (0 : Fin 1) rfl rfl)).trans (root x r))
  have h11 := (val_main_v11_apply (F := Ideal) w (ix2 r j)).trans ((val_main_v10_apply (F := Ideal) w _).trans
    (congrArg w (at1 (idx_main_v10 (idx_main_v11 (ix2 r j))) j rfl)))
  exact congrArg₂ (fun y z : EReal => y * z) (congrArg (fun y : EReal => x (ix2 r j) * y) h8) h11

/-- A row's eight scores. -/
def marks (r : Fin 2048) : Fin 8 → EReal := score (row x w r) (fun e k => g (ix2 e k))

theorem scored (r : Fin 2048) (e : Fin 8) : val_main_v14 (F := Ideal) x w g (ix2 r e) = marks x w g r e := by
  unfold marks score
  refine (val_main_v14_apply x w g (ix2 r e)).trans (Finset.sum_congr rfl fun k _ => ?_)
  exact congrArg₂ (fun y z : EReal => y * z)
    ((congrArg (val_main_v12 (F := Ideal) x w) (at2 (lidx_main_v14 (ix2 r e) k) r k rfl rfl)).trans (scaled_row x w r k))
    ((val_main_v13_apply (F := Ideal) g _).trans (congrArg g (at2 (idx_main_v13 (ridx_main_v14 (ix2 r e) k)) e k rfl rfl)))

/-- A maximum along the rows, from −∞, of a matrix whose row is `p`. -/
theorem row_greatest (v : FVec Ideal S2048x8 .f32) (p : Fin 8 → EReal) (r : Fin 2048) (hv : ∀ e, v (ix2 r e) = p e) :
    Host.reduce FloatOps.maximumf v (constant S_ .f32 0xFF800000#32) reducesTo_S2048x8_S2048_d1 h_S_ (ix1 r) = most p := by
  rw [hostReduce_maximumf_eq_multiReduction v 0xFF800000#32 reducesTo_S2048x8_S2048_d1 h_S_ (by decide) (.inl rfl) rfl]
  refine (row_max (a := 2048) (b := 8) _ _ _ _ r).trans ?_
  rw [ofBits_bot]
  exact Finset.fold_congr fun k _ => hv k

/-- The greatest score of a row. -/
theorem greatest_score (r : Fin 2048) : val_main_v17 (F := Ideal) x w g (ix1 r) = most (marks x w g r) := by
  have h15 : val_main_v15 (F := Ideal) x w g (ix1 r) = most (marks x w g r) :=
    row_greatest (val_main_v14 (F := Ideal) x w g) (marks x w g r) r (scored x w g r)
  refine (congrArg₂ (fun y z : EReal => max y z) ((val_main_v16_apply (F := Ideal) (ix1 r)).trans ofBits_bot) h15).trans (max_eq_right bot_le)

/-- The exponential of a score less the greatest. -/
theorem raised (r : Fin 2048) (e : Fin 8) :
    val_main_v21 (F := Ideal) x w g (ix2 r e) = Ideal.exp (marks x w g r e - most (marks x w g r)) := by
  have h19 := (val_main_v19_apply (F := Ideal) x w g (ix2 r e)).trans ((val_main_v18_apply (F := Ideal) x w g _).trans
    ((congrArg (val_main_v17 (F := Ideal) x w g) (at1 (idx_main_v18 (idx_main_v19 (ix2 r e))) r rfl)).trans (greatest_score x w g r)))
  exact congrArg Ideal.exp (congrArg₂ (fun y z : EReal => y - z) (scored x w g r e) h19)

/-- The softmax of the scores. -/
theorem softmax (r : Fin 2048) (e : Fin 8) : val_main_v25 (F := Ideal) x w g (ix2 r e) = chance (marks x w g r) e := by
  have h22 : val_main_v22 (F := Ideal) x w g (ix1 r) = ∑ k : Fin 8, Ideal.exp (marks x w g r k - most (marks x w g r)) := by
    refine (val_main_v22_apply x w g (ix1 r)).trans ((congrArg₂ (fun y z : EReal => y + z) Ideal.ofBits_zero_f32
      (Finset.sum_congr rfl fun k _ => ?_)).trans (zero_add _))
    exact (congrArg (val_main_v21 (F := Ideal) x w g) (at2 (idx_main_v22 (ix1 r) k) r k rfl rfl)).trans (raised x w g r k)
  have h24 := (val_main_v24_apply (F := Ideal) x w g (ix2 r e)).trans ((val_main_v23_apply (F := Ideal) x w g _).trans
    ((congrArg (val_main_v22 (F := Ideal) x w g) (at1 (idx_main_v23 (idx_main_v24 (ix2 r e))) r rfl)).trans h22))
  exact congrArg₂ Ideal.div (raised x w g r e) h24

end Cert.ReferenceIdeal.Parts
-- ==== Proof.Ref.TopK.lean ====
/-
  The two greatest of each row of eight, as the reference takes them, and the weights it makes of them.
-/
module

public import proofs.«01_k».proof.Proof.Ref.Router

@[expose] public section

noncomputable section

namespace Cert.ReferenceIdeal.Parts

open Cert.ReferenceIdeal Cert.ReferenceIdeal.Gen Cert.ReferenceIdeal.Read Idealize.ShloMosaic Idealize.ShloMosaic.ValueIdx
open Cert.Formula Cert.Rows Cert.Index Cert.TopTwo

/-- The place among eight of a place among the first two. -/
abbrev wide (k : Fin 2) : Fin 8 := ⟨k.val, by omega⟩

theorem along_row (r : Fin 2048) (k e : Fin 8) : Shape.Idx.along (s := S2048x8) (ix2 r k) 1 e = ix2 r e :=
  at2 _ r e rfl rfl

/-- What the sort compares in a row whose numbers are `p`. -/
theorem compares (v : FVec Ideal S2048x8 .f32) (p : Fin 8 → EReal) (r : Fin 2048) (hv : ∀ e, v (ix2 r e) = p e) (k e e' : Fin 8) :
    (FloatOps.cmpfTotal (F := Ideal) (φ := .f32) .gt (v (Shape.Idx.along (s := S2048x8) (ix2 r k) 1 e))
      (v (Shape.Idx.along (s := S2048x8) (ix2 r k) 1 e')) == 1#1) = ahead p e e' := by
  rw [along_row, along_row, hv, hv]
  show (BitVec.ofBool (decide (p e' < p e)) == 1#1) = decide (p e' < p e)
  cases decide (p e' < p e) <;> rfl

/-- The first two columns of a matrix of eight. -/
theorem front {α : Type} (u : S2048x8.Idx → α) (r : Fin 2048) (k : Fin 2) :
    extractStridedSlice S2048x2 (fun _ => 0) u sliceFits_S2048x8_S2048x2 (ix2 r k) = u (ix2 r (wide k)) :=
  extractStridedSlice_apply (fun _ => 0) u sliceFits_S2048x8_S2048x2 (ix2 r k) (ix2 r (wide k)) fun a => match a with
    | ⟨0, _⟩ => (Nat.zero_add _).symm
    | ⟨1, _⟩ => (Nat.zero_add _).symm

/-- A row of a matrix `v` and one of a matrix `y` sorted together, greatest of `v`'s first. -/
theorem sorted_row {β : Type} (v : FVec Ideal S2048x8 .f32) (y : S2048x8.Idx → β) (p : Fin 8 → EReal) (r : Fin 2048)
    (hv : ∀ e, v (ix2 r e) = p e) (k : Fin 8) :
    (Host.sort2 S2048x8 1 (fun l r => FloatOps.cmpfTotal (F := Ideal) (φ := .f32) .gt l.1 r.1) v y).1 (ix2 r k) = p (sortedFrom (ahead p) k)
    ∧ (Host.sort2 S2048x8 1 (fun l r => FloatOps.cmpfTotal (F := Ideal) (φ := .f32) .gt l.1 r.1) v y).2 (ix2 r k)
        = y (ix2 r (sortedFrom (ahead p) k)) := by
  have hs : sortedFrom (fun e e' => FloatOps.cmpfTotal (F := Ideal) (φ := .f32) .gt (v (Shape.Idx.along (s := S2048x8) (ix2 r k) 1 e))
      (v (Shape.Idx.along (s := S2048x8) (ix2 r k) 1 e')) == 1#1) = sortedFrom (ahead p) :=
    sortedFrom_congr _ _ fun e e' _ => compares v p r hv k e e'
  unfold Host.sort2
  rw [dif_pos (show 1 < S2048x8.rank by decide)]
  exact ⟨(congrArg (fun σ : Fin 8 → Fin 8 => v (Shape.Idx.along (s := S2048x8) (ix2 r k) 1 (σ k))) hs).trans
      ((congrArg v (along_row r k _)).trans (hv _)),
    (congrArg (fun σ : Fin 8 → Fin 8 => y (Shape.Idx.along (s := S2048x8) (ix2 r k) 1 (σ k))) hs).trans (congrArg y (along_row r k _))⟩

/-- The greatest two numbers of a row, in descending order. -/
theorem top_values (v : FVec Ideal S2048x8 .f32) (p : Fin 8 → EReal) (r : Fin 2048) (hv : ∀ e, v (ix2 r e) = p e) (k : Fin 2) :
    (Host.topK S2048x2 1 (FloatOps.cmpfTotal .gt) v sliceFits_S2048x8_S2048x2).1 (ix2 r k) = p (sortedFrom (ahead p) (wide k)) := by
  unfold Host.topK
  dsimp only
  exact (front _ r k).trans (sorted_row v _ p r hv (wide k)).1

/-- Their positions, as 32-bit words. -/
theorem top_places (v : FVec Ideal S2048x8 .f32) (p : Fin 8 → EReal) (r : Fin 2048) (hv : ∀ e, v (ix2 r e) = p e) (k : Fin 2) :
    (Host.topK S2048x2 1 (FloatOps.cmpfTotal .gt) v sliceFits_S2048x8_S2048x2).2 (ix2 r k)
      = BitVec.ofNat 32 (sortedFrom (ahead p) (wide k)).val := by
  unfold Host.topK
  dsimp only
  refine (front _ r k).trans ((sorted_row v _ p r hv (wide k)).2.trans ?_)
  exact (dif_pos (show 1 < S2048x8.rank by decide)).trans (iotaInDim_apply 32 _ _)

variable (x : FVec Ideal S2048x1024 .f32) (w : FVec Ideal S1024 .f32) (g : FVec Ideal S8x1024 .f32)

/-- The position of a row's `k`-th greatest chance. -/
def place (r : Fin 2048) (k : Fin 2) : Fin 8 := sortedFrom (ahead (chance (marks x w g r))) (wide k)

theorem kept (r : Fin 2048) (k : Fin 2) :
    val_main_values (F := Ideal) x w g (ix2 r k) = chance (marks x w g r) (place x w g r k) :=
  top_values (val_main_v25 (F := Ideal) x w g) (chance (marks x w g r)) r (softmax x w g r) k

theorem kept_at (r : Fin 2048) (k : Fin 2) :
    val_main_indices (F := Ideal) x w g (ix2 r k) = BitVec.ofNat 32 (place x w g r k).val :=
  top_places (val_main_v25 (F := Ideal) x w g) (chance (marks x w g r)) r (softmax x w g r) k

theorem ofBits_one : Ideal.ofBits .f32 0x3F800000#32 = 1 := Ideal.ofBits_one_f32

/-- The two kept chances, divided by their sum. -/
theorem shares (r : Fin 2048) (k : Fin 2) : val_main_v31 (F := Ideal) x w g (ix2 r k)
    = Ideal.div (chance (marks x w g r) (place x w g r k))
        (chance (marks x w g r) (place x w g r 0) + chance (marks x w g r) (place x w g r 1)) := by
  have h26 : val_main_v26 (F := Ideal) x w g (ix1 r)
      = chance (marks x w g r) (place x w g r 0) + chance (marks x w g r) (place x w g r 1) := by
    refine (val_main_v26_apply x w g (ix1 r)).trans ((congrArg₂ (fun y z : EReal => y + z) Ideal.ofBits_zero_f32
      ((Finset.sum_congr rfl fun k _ => ?_).trans (Fin.sum_univ_two fun k => chance (marks x w g r) (place x w g r k)))).trans (zero_add _))
    exact (congrArg (val_main_values (F := Ideal) x w g) (at2 (idx_main_v26 (ix1 r) k) r k rfl rfl)).trans (kept x w g r k)
  have h28 := (val_main_v28_apply (F := Ideal) x w g (ix2 r k)).trans ((val_main_v27_apply (F := Ideal) x w g _).trans
    ((congrArg (val_main_v26 (F := Ideal) x w g) (at1 (idx_main_v27 (idx_main_v28 (ix2 r k))) r rfl)).trans h26))
  exact (congrArg₂ (fun y z : EReal => y * z) (congrArg₂ Ideal.div (kept x w g r k) h28)
    ((val_main_v30_apply (F := Ideal) (ix2 r k)).trans ofBits_one)).trans (mul_one _)

/-- One where the expert is the one kept, zero elsewhere. -/
theorem hot (r : Fin 2048) (k : Fin 2) (e : Fin 8) :
    val_main_v32 (F := Ideal) x w g (ix3 r k e) = if e = place x w g r k then 1 else 0 := by
  have h2 := (val_main_call0_v2_apply (F := Ideal) x w g (ix3 r k e)).trans ((val_main_call0_v0_apply (F := Ideal) x w g _).trans
    ((congrArg (val_main_indices (F := Ideal) x w g) (at2 (idx_main_call0_v0 (idx_main_call0_v2 (ix3 r k e))) r k rfl rfl)).trans
      (kept_at x w g r k)))
  have h3 : val_main_call0_v3 (F := Ideal) (ix3 r k e) = BitVec.ofNat 32 e.val := val_main_call0_v3_apply (F := Ideal) (ix3 r k e)
  have h4 : val_main_call0_v4 (F := Ideal) x w g (ix3 r k e) = BitVec.ofBool (decide (place x w g r k = e)) :=
    (congrArg₂ (IntOp.cmpi .eq) h2 h3).trans (word_eq e (place x w g r k))
  refine (congrArg (FloatOps.uitofp (F := Ideal) .f32) h4).trans ?_
  by_cases h : e = place x w g r k
  · rw [if_pos h, decide_eq_true h.symm]
    show (((1 : ℕ) : ℝ) : EReal) = 1
    simp
  · rw [if_neg h, decide_eq_false fun hh => h hh.symm]
    show (((0 : ℕ) : ℝ) : EReal) = 0
    simp

/-- The weight of an expert on a row. -/
theorem weighted (r : Fin 2048) (e : Fin 8) :
    val_main_v36 (F := Ideal) x w g (ix2 r e) = weights (chance (marks x w g r)) e := by
  have h35 : ∀ k : Fin 2, val_main_v35 (F := Ideal) x w g (ix3 r k e)
      = if e = place x w g r k then Ideal.div (chance (marks x w g r) (place x w g r k))
          (chance (marks x w g r) (place x w g r 0) + chance (marks x w g r) (place x w g r 1)) else 0 := fun k => by
    have h34 := (val_main_v34_apply (F := Ideal) x w g (ix3 r k e)).trans ((val_main_v33_apply (F := Ideal) x w g _).trans
      ((congrArg (val_main_v31 (F := Ideal) x w g) (at2 (idx_main_v33 (idx_main_v34 (ix3 r k e))) r k rfl rfl)).trans (shares x w g r k)))
    refine (congrArg₂ (fun y z : EReal => y * z) (hot x w g r k e) h34).trans ?_
    by_cases h : e = place x w g r k
    · rw [if_pos h, if_pos h, one_mul]
    · rw [if_neg h, if_neg h, zero_mul]
  rw [weights_eq_sorted]
  have h36 : (∑ k : Fin 2, val_main_v35 (F := Ideal) x w g (idx_main_v36 (ix2 r e) k))
      = ∑ k : Fin 2, if e = place x w g r k then Ideal.div (chance (marks x w g r) (place x w g r k))
          (chance (marks x w g r) (place x w g r 0) + chance (marks x w g r) (place x w g r 1)) else 0 :=
    Finset.sum_congr rfl fun k _ =>
      (congrArg (val_main_v35 (F := Ideal) x w g) (at3 (idx_main_v36 (ix2 r e) k) r k e rfl rfl rfl)).trans (h35 k)
  rw [Fin.sum_univ_two (fun k : Fin 2 => if e = place x w g r k then _ else _)] at h36
  exact (val_main_v36_apply x w g (ix2 r e)).trans ((congrArg₂ (fun y z : EReal => y + z) Ideal.ofBits_zero_f32 h36).trans (zero_add _))

end Cert.ReferenceIdeal.Parts
-- ==== Proof.Ref.Experts.lean ====
/-
  The reference's experts read at an index: eight routed ones, weighted and added up, and one shared by every row.
-/
module

public import proofs.«01_k».proof.Proof.Ref.TopK

@[expose] public section

noncomputable section

namespace Cert.ReferenceIdeal.Parts

open Cert.ReferenceIdeal Cert.ReferenceIdeal.Gen Cert.ReferenceIdeal.Read Idealize.ShloMosaic Idealize.ShloMosaic.ValueIdx
open Cert.Formula Cert.Index

variable (x : FVec Ideal S2048x1024 .f32) (w : FVec Ideal S1024 .f32) (g : FVec Ideal S8x1024 .f32)
  (wg : FVec Ideal S8x2048x1024 .f32) (wd : FVec Ideal S8x1024x1024 .f32) (sg : FVec Ideal S4096x1024 .f32) (sd : FVec Ideal S1024x2048 .f32)

/-- Twice the width of a routed expert: its gate values, then its plain ones. -/
theorem routed_in (r : Fin 2048) (e : Fin 8) (f : Fin 2048) :
    val_main_v37 (F := Ideal) x w wg (ix3 r e f) = score (row x w r) (fun f k => wg (ix3 e f k)) f := by
  unfold score
  refine (val_main_v37_apply x w wg (ix3 r e f)).trans (Finset.sum_congr rfl fun k _ => ?_)
  exact congrArg₂ (fun y z : EReal => y * z)
    ((congrArg (val_main_v12 (F := Ideal) x w) (at2 (lidx_main_v37 (ix3 r e f) k) r k rfl rfl)).trans (scaled_row x w r k))
    (congrArg wg (at3 (ridx_main_v37 (ix3 r e f) k) e f k rfl rfl rfl))

/-- A gate value times its logistic function. -/
theorem routed_gate (r : Fin 2048) (e : Fin 8) (f : Fin 1024) :
    val_main_v40 (F := Ideal) x w wg (ix3 r e f) = swish (score (row x w r) (fun f k => wg (ix3 e f k)) ⟨f.val, by omega⟩) := by
  have h38 := (val_main_v38_apply (F := Ideal) x w wg (ix3 r e f)).trans
    ((congrArg (val_main_v37 (F := Ideal) x w wg) (at3 (idx_main_v38 (ix3 r e f)) r e (⟨f.val, by omega⟩ : Fin 2048) rfl rfl rfl)).trans
      (routed_in x w wg r e ⟨f.val, by omega⟩))
  refine Eq.trans ?_ (mul_logistic _)
  exact congrArg₂ (fun y z : EReal => y * z) h38 (congrArg₂ Ideal.div ((val_main_call1_v4_apply (F := Ideal) (ix3 r e f)).trans ofBits_one)
    (congrArg₂ (fun y z : EReal => y + z) ((val_main_call1_v2_apply (F := Ideal) (ix3 r e f)).trans ofBits_one)
      (congrArg (fun z : EReal => Ideal.exp (-z)) h38)))

/-- What an expert puts out for a row. -/
theorem routed_out (r : Fin 2048) (e : Fin 8) (j : Fin 1024) :
    val_main_v43 (F := Ideal) x w wg wd (ix3 r e j)
      = ffn (rfl : 1024 + 1024 = 2048) (row x w r) (fun f k => wg (ix3 e f k)) (fun f => wd (ix3 e j f)) := by
  unfold ffn gated
  refine (val_main_v43_apply (F := Ideal) x w wg wd (ix3 r e j)).trans ((congrArg (val_main_v42 (F := Ideal) x w wg wd)
    (at3 (idx_main_v43 (ix3 r e j)) e j r rfl rfl rfl)).trans ((val_main_v42_apply x w wg wd (ix3 e j r)).trans
      (Finset.sum_congr rfl fun f _ => ?_)))
  have h39 := (val_main_v39_apply (F := Ideal) x w wg (ix3 r e f)).trans
    ((congrArg (val_main_v37 (F := Ideal) x w wg) (at3 (idx_main_v39 (ix3 r e f)) r e (⟨1024 + f.val, by omega⟩ : Fin 2048) rfl rfl rfl)).trans
      (routed_in x w wg r e ⟨1024 + f.val, by omega⟩))
  refine (congrArg₂ (fun y z : EReal => y * z) (congrArg wd (at3 (lidx_main_v42 (ix3 e j r) f) e j f rfl rfl rfl))
    ((congrArg (val_main_v41 (F := Ideal) x w wg) (at3 (ridx_main_v42 (ix3 e j r) f) r e f rfl rfl rfl)).trans
      (congrArg₂ (fun y z : EReal => y * z) (routed_gate x w wg r e f) h39))).trans (mul_comm _ _)

/-- The routed experts' sum, each times its weight. -/
theorem routed_sum (r : Fin 2048) (j : Fin 1024) :
    val_main_v47 (F := Ideal) x w g wg wd (ix2 r j)
      = ∑ e : Fin 8, ffn (rfl : 1024 + 1024 = 2048) (row x w r) (fun f k => wg (ix3 e f k)) (fun f => wd (ix3 e j f))
          * weights (chance (marks x w g r)) e := by
  refine (val_main_v47_apply x w g wg wd (ix2 r j)).trans ((congrArg₂ (fun y z : EReal => y + z) Ideal.ofBits_zero_f32
    (Finset.sum_congr rfl fun e _ => ?_)).trans (zero_add _))
  have h45 := (val_main_v45_apply (F := Ideal) x w g (ix3 r e j)).trans ((val_main_v44_apply (F := Ideal) x w g _).trans
    ((congrArg (val_main_v36 (F := Ideal) x w g) (at2 (idx_main_v44 (idx_main_v45 (ix3 r e j))) r e rfl rfl)).trans (weighted x w g r e)))
  exact (congrArg (val_main_v46 (F := Ideal) x w g wg wd) (at3 (idx_main_v47 (ix2 r j) e) r e j rfl rfl rfl)).trans
    (congrArg₂ (fun y z : EReal => y * z) (routed_out x w wg wd r e j) h45)

/-- Twice the width of the shared expert: its gate values, then its plain ones. -/
theorem shared_in (r : Fin 2048) (f : Fin 4096) :
    val_main_v49 (F := Ideal) x w sg (ix2 r f) = score (row x w r) (fun f k => sg (ix2 f k)) f := by
  unfold score
  refine (val_main_v49_apply x w sg (ix2 r f)).trans (Finset.sum_congr rfl fun k _ => ?_)
  exact congrArg₂ (fun y z : EReal => y * z)
    ((congrArg (val_main_v12 (F := Ideal) x w) (at2 (lidx_main_v49 (ix2 r f) k) r k rfl rfl)).trans (scaled_row x w r k))
    ((val_main_v48_apply (F := Ideal) sg _).trans (congrArg sg (at2 (idx_main_v48 (ridx_main_v49 (ix2 r f) k)) f k rfl rfl)))

theorem shared_gate (r : Fin 2048) (f : Fin 2048) :
    val_main_v52 (F := Ideal) x w sg (ix2 r f) = swish (score (row x w r) (fun f k => sg (ix2 f k)) ⟨f.val, by omega⟩) := by
  have h50 := (val_main_v50_apply (F := Ideal) x w sg (ix2 r f)).trans
    ((congrArg (val_main_v49 (F := Ideal) x w sg) (at2 (idx_main_v50 (ix2 r f)) r (⟨f.val, by omega⟩ : Fin 4096) rfl rfl)).trans
      (shared_in x w sg r ⟨f.val, by omega⟩))
  refine Eq.trans ?_ (mul_logistic _)
  exact congrArg₂ (fun y z : EReal => y * z) h50 (congrArg₂ Ideal.div ((val_main_call2_v4_apply (F := Ideal) (ix2 r f)).trans ofBits_one)
    (congrArg₂ (fun y z : EReal => y + z) ((val_main_call2_v2_apply (F := Ideal) (ix2 r f)).trans ofBits_one)
      (congrArg (fun z : EReal => Ideal.exp (-z)) h50)))

/-- What the shared expert puts out for a row. -/
theorem shared_out (r : Fin 2048) (j : Fin 1024) :
    val_main_v55 (F := Ideal) x w sg sd (ix2 r j)
      = ffn (rfl : 2048 + 2048 = 4096) (row x w r) (fun f k => sg (ix2 f k)) (fun f => sd (ix2 j f)) := by
  unfold ffn gated
  refine (val_main_v55_apply x w sg sd (ix2 r j)).trans (Finset.sum_congr rfl fun f _ => ?_)
  have h51 := (val_main_v51_apply (F := Ideal) x w sg (ix2 r f)).trans
    ((congrArg (val_main_v49 (F := Ideal) x w sg) (at2 (idx_main_v51 (ix2 r f)) r (⟨2048 + f.val, by omega⟩ : Fin 4096) rfl rfl)).trans
      (shared_in x w sg r ⟨2048 + f.val, by omega⟩))
  exact congrArg₂ (fun y z : EReal => y * z)
    ((congrArg (val_main_v53 (F := Ideal) x w sg) (at2 (lidx_main_v55 (ix2 r j) f) r f rfl rfl)).trans
      (congrArg₂ (fun y z : EReal => y * z) (shared_gate x w sg r f) h51))
    ((val_main_v54_apply (F := Ideal) sd _).trans (congrArg sd (at2 (idx_main_v54 (ridx_main_v55 (ix2 r j) f)) j f rfl rfl)))

/-- The reference's result at a row and a column. -/
theorem result (r : Fin 2048) (j : Fin 1024) :
    val_main_v57 (F := Ideal) x w g wg wd sg sd (ix2 r j)
      = x (ix2 r j)
        + (∑ e : Fin 8, ffn (rfl : 1024 + 1024 = 2048) (row x w r) (fun f k => wg (ix3 e f k)) (fun f => wd (ix3 e j f))
            * weights (chance (marks x w g r)) e)
        + ffn (rfl : 2048 + 2048 = 4096) (row x w r) (fun f k => sg (ix2 f k)) (fun f => sd (ix2 j f)) :=
  congrArg₂ (fun y z : EReal => y + z) (congrArg (fun z : EReal => x (ix2 r j) + z) (routed_sum x w g wg wd r j)) (shared_out x w sg sd r j)

end Cert.ReferenceIdeal.Parts
-- ==== Proof.Same.lean ====
/-
  The kernel's result and the reference's are the same function of the seven arguments.
-/
module

public import proofs.«01_k».proof.Proof.Exact.Result
public import proofs.«01_k».proof.Proof.Ref.Experts

@[expose] public section

noncomputable section

namespace Cert.Same

open Idealize.ShloMosaic Idealize.ShloMosaic.ValueIdx
open Cert.Formula Cert.KernelIdeal.RouterValue Cert.KernelIdeal.MoeValue Cert.KernelIdeal.Run Cert.ReferenceIdeal.Parts

variable (x : FVec Ideal ⟨2, ![2048, 1024]⟩ .f32) (w : FVec Ideal ⟨1, ![1024]⟩ .f32) (g : FVec Ideal ⟨2, ![8, 1024]⟩ .f32)
  (wg : FVec Ideal ⟨3, ![8, 2048, 1024]⟩ .f32) (wd : FVec Ideal ⟨3, ![8, 1024, 1024]⟩ .f32)
  (sg : FVec Ideal ⟨2, ![4096, 1024]⟩ .f32) (sd : FVec Ideal ⟨2, ![1024, 2048]⟩ .f32)

/-- A row scaled by the kernel is the row scaled by the reference. -/
theorem hid_eq (r : Fin 2048) : hid x (rowOf w) r = row x w r :=
  congrArg (unit fun k => x (ix2 r k)) (funext fun k => shapeCast_a_1a_apply _ _ 0 k)

theorem scores_eq (r : Fin 2048) : scores x (rowOf w) g r = marks x w g r :=
  congrArg (fun h => score h fun e k => g (ix2 e k)) (hid_eq x w r)

/-- The kernel's result at a row and a column. -/
theorem kernel_at (r : Fin 2048) (j : Fin 1024) :
    resultOf x w g wg wd sg sd (ix2 r j)
      = x (ix2 r j)
        + (∑ e : Fin 8, ffn (rfl : 1024 + 1024 = 2048) (row x w r) (fun f k => wg (ix3 e f k)) (fun f => wd (ix3 e j f))
            * weights (chance (marks x w g r)) e)
        + ffn (rfl : 2048 + 2048 = 4096) (row x w r) (fun f k => sg (ix2 f k)) (fun f => sd (ix2 j f)) := by
  rw [← hid_eq, ← scores_eq]
  rfl

/-- The two results are equal. -/
theorem same : resultOf x w g wg wd sg sd = Cert.ReferenceIdeal.Read.val_main_v57 (F := Ideal) x w g wg wd sg sd :=
  funext fun i => by
    have hi : i = ix2 (i 0) (i 1) := Cert.Index.at2 i (i 0) (i 1) rfl rfl
    rw [hi]
    exact (kernel_at x w g wg wd sg sd (i 0) (i 1)).trans (result x w g wg wd sg sd (i 0) (i 1)).symm

end Cert.Same
-- ==== Proof.lean ====
/-
  The proof of the five claims: the kernel as printed and its ideal reading run, stop, and leave their arguments and every
  semaphore counter as they were; so does the reference; the ideal reading is the kernel's own text; and over the
  extended reals the kernel's result is the reference's, element by element.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Word.Run
public import proofs.«01_k».proof.Proof.Exact.Run
public import proofs.«01_k».proof.Proof.Exact.Result
public import proofs.«01_k».proof.Proof.Same
public import Idealize.ShloMosaic.Adequacy
public import Idealize.ShloMosaic.Init
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts

/-- The kernel as printed runs and leaves its arguments and every counter as they were. -/
theorem word : Cert.quiescent_Kernel (hKernel := Cert.Kernel.Gen.facts) := fun m g _ => Cert.Kernel.Run.frame m g

/-- So does its ideal reading. -/
theorem exact : Cert.quiescent_KernelIdeal (hKernelIdeal := Cert.KernelIdeal.Gen.facts) := fun m g _ => Cert.KernelIdeal.Run.frame m g

/-- So does the reference, which has no semaphores. -/
theorem plain : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩) (Cert.ReferenceIdeal.Value.run m g)

/-- Over the extended reals the kernel's result is the reference's. -/
theorem equal : Cert.algebraic_KernelIdeal_ReferenceIdeal (hKernelIdeal := Cert.KernelIdeal.Gen.facts)
    (hReferenceIdeal := Cert.ReferenceIdeal.Gen.facts) := by
  intro m g m' g' _ ha
  refine ⟨fun c => Cert.ReferenceIdeal.Value.res_main_v57 m' c,
    (θ_run Cert.KernelIdeal.defs _ _).mono (fun _ h c => ⟨(h.2 c).trans ((Cert.KernelIdeal.Run.result_eq m c).trans ?_), h.1.1 c⟩)
      (Cert.KernelIdeal.Run.runs m g),
    Cert.ReferenceIdeal.Value.run m' g'⟩
  obtain ⟨h0, h1, h2, h3, h4, h5, h6⟩ := ha c
  refine Eq.trans ?_ (Cert.ReferenceIdeal.Read.val_main_v57_eq m' c).symm
  rw [h0, h1, h2, h3, h4, h5, h6]
  exact Cert.Same.same _ _ _ _ _ _ _

/-- The five claims. -/
theorem claim : Cert.Claim := ⟨Cert.Kernel.Gen.facts, Cert.KernelIdeal.Gen.facts, Cert.ReferenceIdeal.Gen.facts,
  word, exact, plain, trivial, equal⟩

end Cert.Proof

end
